-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routed_KernelIdeal [hPre_routed_KernelIdeal : Cert.Pre_routed_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed_ReferenceIdeal [hPre_routed_ReferenceIdeal : Cert.Pre_routed_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_routed_KernelIdeal [hKernelIdeal : Cert.KernelIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_routed_ReferenceIdeal [hReferenceIdeal : Cert.ReferenceIdeal.Facts] [hPre_routed_ReferenceIdeal : Cert.Pre_routed_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_routed_KernelIdeal [hKernelIdeal : Cert.KernelIdeal.Facts] [hReferenceIdeal : Cert.ReferenceIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 512, 1024]⟩ ⟨3, ![64, 512, 1024]⟩ 0 16 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v14) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_routed_KernelIdeal : Cert.Pre_routed_KernelIdeal.Facts) (hPre_routed_ReferenceIdeal : Cert.Pre_routed_ReferenceIdeal.Facts),
    quiescent_Kernel (hKernel := hKernel)
    ∧ quiescent_KernelIdeal (hKernelIdeal := hKernelIdeal)
    ∧ quiescent_KernelIdeal_pre_routed_KernelIdeal (hKernelIdeal := hKernelIdeal) (hPre_routed_KernelIdeal := hPre_routed_KernelIdeal)
    ∧ quiescent_ReferenceIdeal (hReferenceIdeal := hReferenceIdeal)
    ∧ quiescent_ReferenceIdeal_pre_routed_ReferenceIdeal (hReferenceIdeal := hReferenceIdeal) (hPre_routed_ReferenceIdeal := hPre_routed_ReferenceIdeal)
    ∧ preserves_Kernel_KernelIdeal
    ∧ algebraic_KernelIdeal_ReferenceIdeal_pre_routed_KernelIdeal (hKernelIdeal := hKernelIdeal) (hReferenceIdeal := hReferenceIdeal) (hPre_routed_KernelIdeal := hPre_routed_KernelIdeal)
-- ==== Pre_routed_KernelIdeal.lean ====
abbrev S2048x512 : Shape := ⟨2, ![2048, 512]⟩
abbrev S512x64 : Shape := ⟨2, ![512, 64]⟩
abbrev S2048x1 : Shape := ⟨2, ![2048, 1]⟩
abbrev S4x512x1024 : Shape := ⟨3, ![4, 512, 1024]⟩
abbrev S_ : Shape := ⟨0, ![]⟩

class Facts : Prop where
  bcast_S_S2048x1 : S_.BroadcastsInDim S2048x1 (![] : Fin 0 → Fin S2048x1.rank)

variable [Facts]

def fn {F : FTy → Type} [FloatOps F] (main_arg0 : FVec F S2048x512 .f32) (main_arg1 : FVec F S512x64 .f32) (main_arg2 : IVec S2048x1 32) (main_arg3 : FVec F S4x512x1024 .f32) : IVec S2048x1 1 :=
  let main_c : IVec S_ 32 := constantI S_ 32 0#32
  let main_v0 : IVec S2048x1 32 := broadcastInDim S2048x1 ![] bcast_S_S2048x1 main_c
  let main_v1 : IVec S2048x1 1 := cmpi .sge main_arg2 main_v0
  let main_c_0 : IVec S_ 32 := constantI S_ 32 64#32
  let main_v2 : IVec S2048x1 32 := broadcastInDim S2048x1 ![] bcast_S_S2048x1 main_c_0
  let main_v3 : IVec S2048x1 1 := cmpi .slt main_arg2 main_v2
  let main_v4 : IVec S2048x1 1 := andi main_v1 main_v3
  main_v4
-- ==== Pre_routed_ReferenceIdeal.lean ====
abbrev S2048x512 : Shape := ⟨2, ![2048, 512]⟩
abbrev S512x64 : Shape := ⟨2, ![512, 64]⟩
abbrev S2048x1 : Shape := ⟨2, ![2048, 1]⟩
abbrev S64x512x1024 : Shape := ⟨3, ![64, 512, 1024]⟩
abbrev S_ : Shape := ⟨0, ![]⟩

class Facts : Prop where
  bcast_S_S2048x1 : S_.BroadcastsInDim S2048x1 (![] : Fin 0 → Fin S2048x1.rank)

variable [Facts]

def fn {F : FTy → Type} [FloatOps F] (main_arg0 : FVec F S2048x512 .f32) (main_arg1 : FVec F S512x64 .f32) (main_arg2 : IVec S2048x1 32) (main_arg3 : FVec F S64x512x1024 .f32) : IVec S2048x1 1 :=
  let main_c : IVec S_ 32 := constantI S_ 32 0#32
  let main_v0 : IVec S2048x1 32 := broadcastInDim S2048x1 ![] bcast_S_S2048x1 main_c
  let main_v1 : IVec S2048x1 1 := cmpi .sge main_arg2 main_v0
  let main_c_0 : IVec S_ 32 := constantI S_ 32 64#32
  let main_v2 : IVec S2048x1 32 := broadcastInDim S2048x1 ![] bcast_S_S2048x1 main_c_0
  let main_v3 : IVec S2048x1 1 := cmpi .slt main_arg2 main_v2
  let main_v4 : IVec S2048x1 1 := andi main_v1 main_v3
  main_v4
-- ==== Kernel.lean ====
abbrev S2048x512 : Shape := ⟨2, ![2048, 512]⟩
abbrev S512x64 : Shape := ⟨2, ![512, 64]⟩
abbrev S2048x1 : Shape := ⟨2, ![2048, 1]⟩
abbrev S4x512x1024 : Shape := ⟨3, ![4, 512, 1024]⟩
abbrev S2048x1024 : Shape := ⟨2, ![2048, 1024]⟩
abbrev S16x128x1024 : Shape := ⟨3, ![16, 128, 1024]⟩
abbrev S7 : Shape := ⟨1, ![7]⟩
abbrev S8 : Shape := ⟨1, ![8]⟩
abbrev S_ : Shape := ⟨0, ![]⟩
abbrev S2048x64 : Shape := ⟨2, ![2048, 64]⟩
abbrev S2048x2048 : Shape := ⟨2, ![2048, 2048]⟩
abbrev S2048 : Shape := ⟨1, ![2048]⟩
abbrev S2048x128 : Shape := ⟨2, ![2048, 128]⟩
abbrev S128x512 : Shape := ⟨2, ![128, 512]⟩
abbrev S32x512 : Shape := ⟨2, ![32, 512]⟩
abbrev S1x512x1024 : Shape := ⟨3, ![1, 512, 1024]⟩
abbrev S512x1024 : Shape := ⟨2, ![512, 1024]⟩
abbrev S32x1024 : Shape := ⟨2, ![32, 1024]⟩
abbrev S128x1024 : Shape := ⟨2, ![128, 1024]⟩
abbrev S1x128x1024 : Shape := ⟨3, ![1, 128, 1024]⟩
abbrev S1 : Shape := ⟨1, ![1]⟩
abbrev S2048x256 : Shape := ⟨2, ![2048, 256]⟩
abbrev S256x1024 : Shape := ⟨2, ![256, 1024]⟩

abbrev nBuf : Space → Nat
  | .hbm => 5
  | .vmem => 5
  | .smem => 0
  | _ => 0

abbrev bufTy : (tb : Table) → Fin (tcTables nBuf tb) → BufTy
  | .hbm, ⟨0, _⟩ => ⟨S2048x512, .f32⟩
  | .hbm, ⟨1, _⟩ => ⟨S512x64, .f32⟩
  | .hbm, ⟨2, _⟩ => ⟨S2048x1, .i32⟩
  | .hbm, ⟨3, _⟩ => ⟨S4x512x1024, .f32⟩
  | .hbm, ⟨4, _⟩ => ⟨S2048x1024, .f32⟩
  | .local _ .vmem, ⟨0, _⟩ => ⟨S2048x1, .i32⟩
  | .local _ .vmem, ⟨1, _⟩ => ⟨S2048x512, .f32⟩
  | .local _ .vmem, ⟨2, _⟩ => ⟨S4x512x1024, .f32⟩
  | .local _ .vmem, ⟨3, _⟩ => ⟨S2048x1024, .f32⟩
  | .local _ .vmem, ⟨4, _⟩ => ⟨S16x128x1024, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_6 : BitVec 32 := 1#32
  let v9 : BitVec 32 := Scalar.muli v7 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_8 : BitVec 32 := 1#32
  let v11 : BitVec 32 := Scalar.muli v4 c1_i32_8
  let v12 : BitVec 32 := Scalar.addi c0_i32_9 v11
  v12.toNat
def k0_off1 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v70 : Index := Scalar.indexCast v2
  let c0_28 : Index := 0#32
  let c0_29 : Index := 0#32
  ![v70.toNat, 0, 0]
def k0_off2 (d0 : Dev nD) (c0_i32_30 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v74 : BitVec 32 := Scalar.subi v2 c0_i32_30
  let c16_i32_31 : BitVec 32 := 16#32
  let v75 : BitVec 32 := Scalar.addi v74 c16_i32_31
  let c16_i32_32 : BitVec 32 := 16#32
  let v76 : BitVec 32 := Scalar.remsi v75 c16_i32_32
  let c0_i32_39 : BitVec 32 := 0#32
  let c0_i32_40 : BitVec 32 := 0#32
  ![v76.toNat, 0, 0]
def k0_dev3 (d0 : Dev nD) : Nat :=
  let c0_i32_38 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_37 : BitVec 32 := 1#32
  let v79 : BitVec 32 := Scalar.muli v4 c1_i32_37
  let v80 : BitVec 32 := Scalar.addi c0_i32_38 v79
  v80.toNat
def k0_off3 (d0 : Dev nD) (c0_i32_33 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v77 : BitVec 32 := Scalar.addi v2 c0_i32_33
  let c16_i32_34 : BitVec 32 := 16#32
  let v78 : BitVec 32 := Scalar.remsi v77 c16_i32_34
  let c0_i32_47 : BitVec 32 := 0#32
  let c0_i32_48 : BitVec 32 := 0#32
  ![v78.toNat, 0, 0]
def k0_dev4 (d0 : Dev nD) : Nat :=
  let c0_i32_46 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_45 : BitVec 32 := 1#32
  let v89 : BitVec 32 := Scalar.muli v7 c1_i32_45
  let v90 : BitVec 32 := Scalar.addi c0_i32_46 v89
  v90.toNat
def k0_dev5 (d0 : Dev nD) : Nat :=
  let c0_i32_93 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_92 : BitVec 32 := 1#32
  let v142 : BitVec 32 := Scalar.muli v4 c1_i32_92
  let v143 : BitVec 32 := Scalar.addi c0_i32_93 v142
  v143.toNat
def k0_dev6 (d0 : Dev nD) : Nat :=
  let c0_i32_101 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_100 : BitVec 32 := 1#32
  let v152 : BitVec 32 := Scalar.muli v7 c1_i32_100
  let v153 : BitVec 32 := Scalar.addi c0_i32_101 v152
  v153.toNat
def k0_off4 (d0 : Dev nD) (c1_i32_85 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v137 : BitVec 32 := Scalar.subi v2 c1_i32_85
  let c16_i32_86 : BitVec 32 := 16#32
  let v138 : BitVec 32 := Scalar.addi v137 c16_i32_86
  let c16_i32_87 : BitVec 32 := 16#32
  let v139 : BitVec 32 := Scalar.remsi v138 c16_i32_87
  let v174 : Index := Scalar.indexCast v139
  let c0_108 : Index := 0#32
  let c0_109 : Index := 0#32
  ![v174.toNat, 0, 0]
def k0_off5 (d0 : Dev nD) (c1_i32_88 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v140 : BitVec 32 := Scalar.addi v2 c1_i32_88
  let c16_i32_89 : BitVec 32 := 16#32
  let v141 : BitVec 32 := Scalar.remsi v140 c16_i32_89
  let v177 : Index := Scalar.indexCast v141
  let c0_110 : Index := 0#32
  let c0_111 : Index := 0#32
  ![v177.toNat, 0, 0]
def k0_dev7 (d0 : Dev nD) : Nat :=
  let c0_i32_155 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_154 : BitVec 32 := 1#32
  let v219 : BitVec 32 := Scalar.muli v4 c1_i32_154
  let v220 : BitVec 32 := Scalar.addi c0_i32_155 v219
  v220.toNat
def k0_dev8 (d0 : Dev nD) : Nat :=
  let c0_i32_163 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_162 : BitVec 32 := 1#32
  let v229 : BitVec 32 := Scalar.muli v7 c1_i32_162
  let v230 : BitVec 32 := Scalar.addi c0_i32_163 v229
  v230.toNat
def k0_dev9 (d0 : Dev nD) : Nat :=
  let c0_i32_216 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_215 : BitVec 32 := 1#32
  let v296 : BitVec 32 := Scalar.muli v4 c1_i32_215
  let v297 : BitVec 32 := Scalar.addi c0_i32_216 v296
  v297.toNat
def k0_dev10 (d0 : Dev nD) : Nat :=
  let c0_i32_224 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_223 : BitVec 32 := 1#32
  let v306 : BitVec 32 := Scalar.muli v7 c1_i32_223
  let v307 : BitVec 32 := Scalar.addi c0_i32_224 v306
  v307.toNat
def k0_dev11 (d0 : Dev nD) : Nat :=
  let c0_i32_277 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_276 : BitVec 32 := 1#32
  let v373 : BitVec 32 := Scalar.muli v4 c1_i32_276
  let v374 : BitVec 32 := Scalar.addi c0_i32_277 v373
  v374.toNat
def k0_dev12 (d0 : Dev nD) : Nat :=
  let c0_i32_285 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_284 : BitVec 32 := 1#32
  let v383 : BitVec 32 := Scalar.muli v7 c1_i32_284
  let v384 : BitVec 32 := Scalar.addi c0_i32_285 v383
  v384.toNat
def k0_dev13 (d0 : Dev nD) : Nat :=
  let c0_i32_338 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_337 : BitVec 32 := 1#32
  let v450 : BitVec 32 := Scalar.muli v4 c1_i32_337
  let v451 : BitVec 32 := Scalar.addi c0_i32_338 v450
  v451.toNat
def k0_dev14 (d0 : Dev nD) : Nat :=
  let c0_i32_346 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_345 : BitVec 32 := 1#32
  let v460 : BitVec 32 := Scalar.muli v7 c1_i32_345
  let v461 : BitVec 32 := Scalar.addi c0_i32_346 v460
  v461.toNat
def k0_dev15 (d0 : Dev nD) : Nat :=
  let c0_i32_399 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_398 : BitVec 32 := 1#32
  let v527 : BitVec 32 := Scalar.muli v4 c1_i32_398
  let v528 : BitVec 32 := Scalar.addi c0_i32_399 v527
  v528.toNat
def k0_dev16 (d0 : Dev nD) : Nat :=
  let c0_i32_407 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_406 : BitVec 32 := 1#32
  let v537 : BitVec 32 := Scalar.muli v7 c1_i32_406
  let v538 : BitVec 32 := Scalar.addi c0_i32_407 v537
  v538.toNat
def k0_dev17 (d0 : Dev nD) : Nat :=
  let c0_i32_460 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_459 : BitVec 32 := 1#32
  let v604 : BitVec 32 := Scalar.muli v7 c1_i32_459
  let v605 : BitVec 32 := Scalar.addi c0_i32_460 v604
  v605.toNat
abbrev stage0_0 : Fin 1 → Memref sig .tc .vmem S2048x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2048x512 : Shape := ⟨2, ![2048, 512]⟩
abbrev S512x64 : Shape := ⟨2, ![512, 64]⟩
abbrev S2048x1 : Shape := ⟨2, ![2048, 1]⟩
abbrev S64x512x1024 : Shape := ⟨3, ![64, 512, 1024]⟩
abbrev S_ : Shape := ⟨0, ![]⟩
abbrev S64 : Shape := ⟨1, ![64]⟩
abbrev S2048 : Shape := ⟨1, ![2048]⟩
abbrev S1 : Shape := ⟨1, ![1]⟩
abbrev S2048x512x1024 : Shape := ⟨3, ![2048, 512, 1024]⟩
abbrev S2048x1024 : Shape := ⟨2, ![2048, 1024]⟩

abbrev nBuf : Space → Nat
  | .hbm => 56
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S512x64, .f32⟩
  | .hbm, ⟨2, _⟩ => ⟨S2048x1, .i32⟩
  | .hbm, ⟨3, _⟩ => ⟨S64x512x1024, .f32⟩
  | .hbm, ⟨4, _⟩ => ⟨S_, .i32⟩
  | .hbm, ⟨5, _⟩ => ⟨S64, .i32⟩
  | .hbm, ⟨6, _⟩ => ⟨S2048, .i32⟩
  | .hbm, ⟨7, _⟩ => ⟨S_, .i1⟩
  | .hbm, ⟨8, _⟩ => ⟨S2048, .i1⟩
  | .hbm, ⟨9, _⟩ => ⟨S_, .i32⟩
  | .hbm, ⟨10, _⟩ => ⟨S2048, .i32⟩
  | .hbm, ⟨11, _⟩ => ⟨S_, .i32⟩
  | .hbm, ⟨12, _⟩ => ⟨S64, .i32⟩
  | .hbm, ⟨13, _⟩ => ⟨S2048, .i1⟩
  | .hbm, ⟨14, _⟩ => ⟨S_, .i32⟩
  | .hbm, ⟨15, _⟩ => ⟨S_, .i1⟩
  | .hbm, ⟨16, _⟩ => ⟨S1, .i32⟩
  | .hbm, ⟨17, _⟩ => ⟨S_, .i32⟩
  | .hbm, ⟨18, _⟩ => ⟨S_, .i32⟩
  | .hbm, ⟨19, _⟩ => ⟨S_, .i1⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S1, .i32⟩
  | .hbm, ⟨24, _⟩ => ⟨S_, .i32⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S_, .i1⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S1, .i32⟩
  | .hbm, ⟨34, _⟩ => ⟨S64, .i32⟩
  | .hbm, ⟨35, _⟩ => ⟨S1, .i1⟩
  | .hbm, ⟨36, _⟩ => ⟨S2048, .i1⟩
  | .hbm, ⟨37, _⟩ => ⟨S_, .i32⟩
  | .hbm, ⟨38, _⟩ => ⟨S_, .i32⟩
  | .hbm, ⟨39, _⟩ => ⟨S2048, .i32⟩
  | .hbm, ⟨40, _⟩ => ⟨S_, .i32⟩
  | .hbm, ⟨41, _⟩ => ⟨S2048, .i32⟩
  | .hbm, ⟨42, _⟩ => ⟨S2048, .i1⟩
  | .hbm, ⟨43, _⟩ => ⟨S_, .i32⟩
  | .hbm, ⟨44, _⟩ => ⟨S2048, .i32⟩
  | .hbm, ⟨45, _⟩ => ⟨S2048, .i32⟩
  | .hbm, ⟨46, _⟩ => ⟨S2048, .i32⟩
  | .hbm, ⟨47, _⟩ => ⟨S2048x1, .i32⟩
  | .hbm, ⟨48, _⟩ => ⟨S2048x512x1024, .f32⟩
  | .hbm, ⟨49, _⟩ => ⟨S2048x1024, .f32⟩
  | .hbm, ⟨50, _⟩ => ⟨S2048x1, .i1⟩
  | .hbm, ⟨51, _⟩ => ⟨S_, .f32⟩
  | .hbm, ⟨52, _⟩ => ⟨S_, .f32⟩
  | .hbm, ⟨53, _⟩ => ⟨S2048x1024, .i1⟩
  | .hbm, ⟨54, _⟩ => ⟨S2048x1024, .f32⟩
  | .hbm, ⟨55, _⟩ => ⟨S2048x1024, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_c_1 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev main_while0c_c_7 : Ref sig .tc := ⟨.hbm, 14, rfl⟩
abbrev main_while0c_v15 : Ref sig .tc := ⟨.hbm, 15, rfl⟩
abbrev main_while0b_call0_v0 : Ref sig .tc := ⟨.hbm, 16, rfl⟩
abbrev main_while0b_v15 : Ref sig .tc := ⟨.hbm, 17, rfl⟩
abbrev main_while0b_c_7 : Ref sig .tc := ⟨.hbm, 18, rfl⟩
abbrev main_while0b_v16 : Ref sig .tc := ⟨.hbm, 19, rfl⟩
abbrev main_while0b_c_8 : Ref sig .tc := ⟨.hbm, 20, rfl⟩
abbrev main_while0b_v17 : Ref sig .tc := ⟨.hbm, 21, rfl⟩
abbrev main_while0b_v18 : Ref sig .tc := ⟨.hbm, 22, rfl⟩
abbrev main_while0b_v19 : Ref sig .tc := ⟨.hbm, 23, rfl⟩
abbrev main_while0b_v20 : Ref sig .tc := ⟨.hbm, 24, rfl⟩
abbrev main_while0b_c_9 : Ref sig .tc := ⟨.hbm, 25, rfl⟩
abbrev main_while0b_v21 : Ref sig .tc := ⟨.hbm, 26, rfl⟩
abbrev main_while0b_v22 : Ref sig .tc := ⟨.hbm, 27, rfl⟩
abbrev main_while0b_c_10 : Ref sig .tc := ⟨.hbm, 28, rfl⟩
abbrev main_while0b_v23 : Ref sig .tc := ⟨.hbm, 29, rfl⟩
abbrev main_while0b_c_11 : Ref sig .tc := ⟨.hbm, 30, rfl⟩
abbrev main_while0b_v24 : Ref sig .tc := ⟨.hbm, 31, rfl⟩
abbrev main_while0b_v25 : Ref sig .tc := ⟨.hbm, 32, rfl⟩
abbrev main_while0b_v26 : Ref sig .tc := ⟨.hbm, 33, rfl⟩
abbrev main_while0b_v27 : Ref sig .tc := ⟨.hbm, 34, rfl⟩
abbrev main_while0b_call1_v0 : Ref sig .tc := ⟨.hbm, 35, rfl⟩
abbrev main_while0b_v28 : Ref sig .tc := ⟨.hbm, 36, rfl⟩
abbrev main_while0b_c_12 : Ref sig .tc := ⟨.hbm, 37, rfl⟩
abbrev main_while0b_v29 : Ref sig .tc := ⟨.hbm, 38, rfl⟩
abbrev main_v4 : Ref sig .tc := ⟨.hbm, 39, rfl⟩
abbrev main_c_2 : Ref sig .tc := ⟨.hbm, 40, rfl⟩
abbrev main_v5 : Ref sig .tc := ⟨.hbm, 41, rfl⟩
abbrev main_v6 : Ref sig .tc := ⟨.hbm, 42, rfl⟩
abbrev main_c_3 : Ref sig .tc := ⟨.hbm, 43, rfl⟩
abbrev main_v7 : Ref sig .tc := ⟨.hbm, 44, rfl⟩
abbrev main_v8 : Ref sig .tc := ⟨.hbm, 45, rfl⟩
abbrev main_v9 : Ref sig .tc := ⟨.hbm, 46, rfl⟩
abbrev main_v10 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_cst : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_v14 : Ref sig .tc := ⟨.hbm, 55, rfl⟩

abbrev nD : Nat := 1
abbrev τ : Topo := Topo.v7x

variable {F : FTy → Type} [FloatOps F]

abbrev main_while0_count : Scf.Loop 32 := ⟨0#32, 2048#32, 1#32⟩
-- ==== Proof.Cells.lean ====
/-
# The exchange: cells, contents, schedule, levels

Every device `c` holds sixteen slots of a scratch buffer. Slot `s` is to hold device `s`'s compact block on every
device. Device `c` stores its own block in slot `c`, then passes blocks to both neighbours for eight steps: at step `k`
slot `c - k` to the right (`k < 7`) and slot `c + k` to the left (`k < 8`). A transfer is named `t : T`, `.inl k` for the
right-moving one of step `k` and `.inr k` for the left-moving one; everything below is stated once for every `t`.

Who waits, who pays, what is handed over:
* the barrier cell of `d`: two units, one from each neighbour. The right neighbour hands `d` the slots that `d`'s
  right-moving transfers will write there, the left neighbour those that `d`'s left-moving transfers will write.
* the send cell of `t` on `c`: paid by `c`'s own transfer; hands back the half share of the source slot that the transfer
  reads. (The other half stays with `c`, which loads from the slot while it is in flight; at step 0 both transfers read
  slot `c`, one half each.)
* the receive cell of `t` on `d`: paid by the transfer `t` of the neighbour it comes from; hands over the slot written,
  holding the block of the device the slot is numbered after.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The launch's memory: any contents, all counters at zero. -/
def s₀ : MemSt nD τ sig (Elt F) := ⟨m, fun _ => 0, ρ⟩

/-! ## Neighbours, transfers, slots -/

set_option backward.proofsInPublic true in
def rt (c : Dev nD) : Dev nD := ⟨(c.val + 1) % 16, Nat.mod_lt _ (by decide)⟩
set_option backward.proofsInPublic true in
def lf (c : Dev nD) : Dev nD := ⟨(c.val + 15) % 16, Nat.mod_lt _ (by decide)⟩

theorem lf_rt (c : Dev nD) : lf (rt c) = c := by revert c; decide
theorem rt_lf (c : Dev nD) : rt (lf c) = c := by revert c; decide

def ring : Dev nD ≃ Dev nD := ⟨rt, lf, lf_rt, rt_lf⟩

/-- The transfers: seven to the right, eight to the left. -/
abbrev T : Type := Fin 7 ⊕ Fin 8
/-- A transfer's step. -/
def T.step : T → ℕ | .inl k => k.val | .inr k => k.val
/-- Whom `c` sends `t` to, and from whom `t` comes to `c`. -/
def peer : T → Dev nD → Dev nD | .inl _ => rt | .inr _ => lf
def origin : T → Dev nD → Dev nD | .inl _ => lf | .inr _ => rt
theorem origin_peer (t : T) (c : Dev nD) : origin t (peer t c) = c := by cases t <;> [exact lf_rt c; exact rt_lf c]
theorem peer_origin (t : T) (c : Dev nD) : peer t (origin t c) = c := by cases t <;> [exact rt_lf c; exact lf_rt c]

set_option backward.proofsInPublic true in
/-- Slots `c - k` and `c + k`, around the ring. -/
def sR (c : Dev nD) (k : ℕ) : Fin 16 := ⟨(c.val + 16 - k) % 16, Nat.mod_lt _ (by decide)⟩
set_option backward.proofsInPublic true in
def sL (c : Dev nD) (k : ℕ) : Fin 16 := ⟨(c.val + k) % 16, Nat.mod_lt _ (by decide)⟩

/-- The slot `c`'s transfer `t` reads, and the slot that the transfer `t` to `c` writes. -/
def src : T → Dev nD → Fin 16 | .inl k, c => sR c k.val | .inr k, c => sL c k.val
def land : T → Dev nD → Fin 16 | .inl k, c => sR c (k.val + 1) | .inr k, c => sL c (k.val + 1)

theorem land_peer (t : T) (c : Dev nD) : land t (peer t c) = src t c := by revert t c; decide +kernel
theorem sR_zero (c : Dev nD) : sR c 0 = c := by revert c; decide
theorem sL_zero (c : Dev nD) : sL c 0 = c := by revert c; decide

/-- All slots of `c`: its own, and the ones transfers write. -/
def slotOf (c : Dev nD) : Option T → Fin 16 | none => c | some t => land t c
theorem slotOf_injective (c : Dev nD) : Function.Injective (slotOf c) := by
  have h : ∀ c : Dev nD, ∀ a b : Option T, slotOf c a = slotOf c b → a = b := by decide +kernel
  exact fun a b => h c a b
theorem slotOf_surjective (c : Dev nD) : Function.Surjective (slotOf c) := by
  have h : ∀ c : Dev nD, ∀ s : Fin 16, ∃ a, slotOf c a = s := by decide +kernel
  exact h c

/-! ## Memrefs -/

abbrev iM : Memref sig .tc .vmem S2048x1 .i32 := Memref.whole cc0_stg0_0
abbrev xM : Memref sig .tc .vmem S2048x512 .f32 := Memref.whole cc0_stg1_0
abbrev wM : Memref sig .tc .vmem S4x512x1024 .f32 := Memref.whole cc0_stg2_0
abbrev oM : Memref sig .tc .vmem S2048x1024 .f32 := Memref.whole cc0_stg3_0
abbrev cM : Memref sig .tc .vmem S16x128x1024 .bf16 := Memref.whole cc0_scratch0

/-- The rectangle of the scratch at an offset of a slot's size, and the memref of a transfer's end there. -/
abbrev slotRect (off : Fin 3 → ℕ) (h : ∀ a, off a + S1x128x1024.size a ≤ S16x128x1024.size a) : Rect S16x128x1024 :=
  Rect.unit (s := S16x128x1024) off S1x128x1024.size h
abbrev slotAt (off : Fin 3 → ℕ) (h : ∀ a, off a + S1x128x1024.size a ≤ S16x128x1024.size a) :
    Memref sig .tc .vmem S128x1024 .bf16 :=
  (cM.slice (slotRect off h) (fun _ => rfl)).squeeze S128x1024 squeezes_S1x128x1024_S128x1024

theorem slot_inb (s : Fin 16) : ∀ a, (![s.val, 0, 0] : Fin 3 → ℕ) a + S1x128x1024.size a ≤ S16x128x1024.size a := by
  revert s; decide
abbrev slotM (s : Fin 16) : Memref sig .tc .vmem S128x1024 .bf16 := slotAt ![s.val, 0, 0] (slot_inb s)

/-- What one transfer credits. -/
abbrev N : ℕ := (slotM 0).view.dmaCredit
theorem N_pos : 0 < N := View.dmaCredit_pos _ (by decide)

theorem slot_set (s : Fin 16) : (slotM s).view.set = (cM.access (slotRect ![s.val, 0, 0] (slot_inb s))).set := by
  show ((cM.view.slice (slotRect ![s.val, 0, 0] (slot_inb s))).reshape S128x1024 _).set = _
  rw [View.set_reshape]
theorem mem_slot (s : Fin 16) (i : S16x128x1024.Idx) : i ∈ (slotM s).view.set ↔ (i 0).val = s.val := by
  have hset : (slotM s).view.set = (slotRect ![s.val, 0, 0] (slot_inb s)).set := by
    rw [slot_set]; exact View.set_slice_whole _ _
  rw [hset, Rect.mem_set_unit]
  constructor
  · intro h
    have h0 := h 0
    have e1 : (![s.val, 0, 0] : Fin 3 → ℕ) 0 = s.val := rfl
    have e2 : S1x128x1024.size 0 = 1 := rfl
    rw [e1, e2] at h0; omega
  · intro h a
    match a with
    | ⟨0, _⟩ => exact ⟨le_of_eq h.symm, by show (i 0).val < s.val + 1; omega⟩
    | ⟨1, _⟩ => exact ⟨Nat.zero_le _, by have h : (i 1).val < 128 := (i 1).isLt; show (i 1).val < 0 + 128; omega⟩
    | ⟨2, _⟩ => exact ⟨Nat.zero_le _, by have h : (i 2).val < 1024 := (i 2).isLt; show (i 2).val < 0 + 1024; omega⟩

/-! ## The values -/

/-- Device `c`'s blocks of `route_idx`, `x` and `expert_W` as the pipeline stages them. -/
def istg (c : Dev nD) : (cc0_stg0_0 : Ref sig .tc).ty.Contents (Elt F) :=
  (win0_0.blk (0 : Fin 1)).view.read (Elt F) ((s₀ m ρ).mem ((c : Thread nD τ).loc main_arg2))
def xstg (c : Dev nD) : (cc0_stg1_0 : Ref sig .tc).ty.Contents (Elt F) :=
  (win0_1.blk (0 : Fin 1)).view.read (Elt F) ((s₀ m ρ).mem ((c : Thread nD τ).loc main_arg0))
def wstg (c : Dev nD) : (cc0_stg2_0 : Ref sig .tc).ty.Contents (Elt F) :=
  (win0_2.blk (0 : Fin 1)).view.read (Elt F) ((s₀ m ρ).mem ((c : Thread nD τ).loc main_arg3))

/-- What the body's loads of them read. -/
def ldI (c : Dev nD) : Vec F S2048x1 .i32 :=
  iM.view.readAt (Elt F) (Rect.unit (s := S2048x1) ![0, 0] S2048x1.size inb_S2048x1_S2048x1_0_0).toLoadRect (istg m ρ c)
def ldX (c : Dev nD) : Vec F S2048x512 .f32 :=
  xM.view.readAt (Elt F) (Rect.unit (s := S2048x512) ![0, 0] S2048x512.size inb_S2048x512_S2048x512_0_0).toLoadRect (xstg m ρ c)
def ldW0 (c : Dev nD) : Vec F S1x512x1024 .f32 :=
  wM.view.readAt (Elt F) (Rect.unit (s := S4x512x1024) ![0, 0, 0] S1x512x1024.size inb_S4x512x1024_S1x512x1024_0_0_0).toLoadRect (wstg m ρ c)
def ldW1 (c : Dev nD) : Vec F S1x512x1024 .f32 :=
  wM.view.readAt (Elt F) (Rect.unit (s := S4x512x1024) ![1, 0, 0] S1x512x1024.size inb_S4x512x1024_S1x512x1024_1_0_0).toLoadRect (wstg m ρ c)
def ldW2 (c : Dev nD) : Vec F S1x512x1024 .f32 :=
  wM.view.readAt (Elt F) (Rect.unit (s := S4x512x1024) ![2, 0, 0] S1x512x1024.size inb_S4x512x1024_S1x512x1024_2_0_0).toLoadRect (wstg m ρ c)
def ldW3 (c : Dev nD) : Vec F S1x512x1024 .f32 :=
  wM.view.readAt (Elt F) (Rect.unit (s := S4x512x1024) ![3, 0, 0] S1x512x1024.size inb_S4x512x1024_S1x512x1024_3_0_0).toLoadRect (wstg m ρ c)

/-- The device's number as the body computes it, and the numbers of the blocks it adds at step `k`. -/
def me (c : Dev nD) : BitVec 32 := Scalar.remsi (Scalar.divsi (Dev.word c) 1#32) 16#32
def wR (c : Dev nD) (k : ℕ) : BitVec 32 := Scalar.remsi (Scalar.addi (Scalar.subi (me c) (BitVec.ofNat 32 k)) 16#32) 16#32
def wL (c : Dev nD) (k : ℕ) : BitVec 32 := Scalar.remsi (Scalar.addi (me c) (BitVec.ofNat 32 k)) 16#32

/-- Every token's slot number in the exchange: its expert's thirty-two slots, at its rank; 4096 if it is dropped. -/
def slots (c : Dev nD) : IVec S2048x1 32 := k0_pay5 (k0_pay2 (ldI m ρ c)) (k0_pay3 (ldI m ρ c)) (k0_pay4 (ldI m ρ c)) 32#32
def lanes : IVec S2048x128 32 := iota .tc S2048x128 32 [1] iota_S2048x128_d1_w32

/-- Device `c`'s compact block, and as its slot holds it. -/
def compact (c : Dev nD) : FVec F S128x1024 .bf16 :=
  k0_pay6 (me c) (k0_pay2 (ldI m ρ c)) (k0_pay3 (ldI m ρ c)) (k0_pay4 (ldI m ρ c)) 32#32 (ldX m ρ c) (ldW0 m ρ c) (ldW1 m ρ c) (ldW2 m ρ c) (ldW3 m ρ c)
def blk (c : Dev nD) : FVec F S1x128x1024 .bf16 :=
  k0_pay8 (k0_pay7 (me c) (k0_pay2 (ldI m ρ c)) (k0_pay3 (ldI m ρ c)) (k0_pay4 (ldI m ρ c)) 32#32 (ldX m ρ c) (ldW0 m ρ c) (ldW1 m ρ c) (ldW2 m ρ c) (ldW3 m ρ c))

set_option backward.proofsInPublic true in
/-- The index within a slot of an index of the scratch. -/
def within (i : S16x128x1024.Idx) : S1x128x1024.Idx := fun a => match a with
  | ⟨0, _⟩ => ⟨0, Nat.one_pos⟩
  | ⟨1, _⟩ => i 1
  | ⟨2, _⟩ => i 2

/-- The scratch filled: every slot holds its device's block. -/
def filled : (cc0_scratch0 : Ref sig .tc).ty.Contents (Elt F) := fun i => blk m ρ (i 0) (within i)

/-- The result's staging buffer after step `k`, and at the end. -/
def acc (c : Dev nD) : ℕ → FVec F S2048x1024 .f32
  | 0 => k0_pay10 (compact m ρ c) (k0_pay9 (me c) (slots m ρ c) lanes)
  | k + 1 => k0_pay13 (slots m ρ c) lanes (wR c (k + 1)) (wL c (k + 1)) (blk m ρ (sR c (k + 1))) (blk m ρ (sL c (k + 1))) (acc c k)
def outAt (c : Dev nD) : FVec F S2048x1024 .f32 :=
  k0_pay1 (k0_pay22 (acc m ρ c 7)) (k0_pay23 (blk m ρ (sL c 8))) (k0_pay24 (me c) (slots m ρ c) lanes)

omit [FloatOps F] in
theorem slotRect_emb (s : Fin 16) (x : S1x128x1024.Idx) : ((slotRect ![s.val, 0, 0] (slot_inb s)).emb x 0 : Fin 16) = s
    ∧ within ((slotRect ![s.val, 0, 0] (slot_inb s)).emb x) = x := by
  constructor
  · apply Fin.ext
    have : (x 0).val < 1 := (x 0).isLt
    show s.val + 1 * (x 0).val = s.val
    omega
  · funext a
    match a with
    | ⟨0, _⟩ => apply Fin.ext; have : (x 0).val < 1 := (x 0).isLt; show 0 = (x 0).val; omega
    | ⟨1, _⟩ => apply Fin.ext; show 0 + 1 * (x 1).val = (x 1).val; omega
    | ⟨2, _⟩ => apply Fin.ext; show 0 + 1 * (x 2).val = (x 2).val; omega

/-- A load of slot `s` of the filled scratch reads device `s`'s block. -/
theorem read_filled (s : Fin 16) :
    cM.view.readAt (Elt F) (slotRect ![s.val, 0, 0] (slot_inb s)).toLoadRect (filled m ρ) = blk m ρ s := by
  funext x
  show blk m ρ ((slotRect ![s.val, 0, 0] (slot_inb s)).emb x 0) (within ((slotRect ![s.val, 0, 0] (slot_inb s)).emb x)) = _
  rw [(slotRect_emb s x).1, (slotRect_emb s x).2]

end Cert.Exchange

end
-- ==== Proof.Schedule.lean ====
/-
# The cells' schedule, what each device owes, and the levels of the waits
-/
module

public import proofs.«01_k».proof.Proof.Cells

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Cells -/

theorem nDma : sig.nDmaSem = 34 := by decide

set_option backward.proofsInPublic true in
/-- A transfer's two semaphores: `false` the sender's, `true` the receiver's. -/
def dsem : T × Bool → DmaSem sig
  | (.inl k, false) => ⟨4 + k.val, by have := k.isLt; have := nDma; omega⟩
  | (.inl k, true) => ⟨11 + k.val, by have := k.isLt; have := nDma; omega⟩
  | (.inr k, false) => ⟨18 + k.val, by have := k.isLt; have := nDma; omega⟩
  | (.inr k, true) => ⟨26 + k.val, by have := k.isLt; have := nDma; omega⟩

/-- The runtime's barrier semaphore. -/
abbrev barS : Sem sig := (SemArray.scalar (sig.barrier 0 rfl) : Sems sig S_).sem

abbrev J : Type := Option (T × Bool)
def csem : J → SemLoc sig | none => .reg barS | some j => .dma (dsem j)

theorem csem_injective : Function.Injective csem := by
  have h : ∀ a b : T × Bool, dsem a = dsem b → a = b := by decide +kernel
  intro a b hab
  match a, b with
  | none, none => rfl
  | none, some _ => cases hab
  | some _, none => cases hab
  | some a, some b => exact congrArg some (h a b (SemLoc.dma.inj hab))

abbrev kcell (cj : Dev nD × J) : GSem nD τ sig := ((cj.1 : Thread nD τ), csem cj.2)
abbrev barCell (c : Dev nD) : GSem nD τ sig := kcell (c, none)
abbrev sendCell (c : Dev nD) (t : T) : GSem nD τ sig := kcell (c, some (t, false))
abbrev recvCell (c : Dev nD) (t : T) : GSem nD τ sig := kcell (c, some (t, true))

theorem kcell_injective : Function.Injective kcell := by
  rintro ⟨c, k⟩ ⟨c', k'⟩ h
  have h1 : c = c' := congrArg (fun g : GSem nD τ sig => g.1.1) h
  subst h1
  exact congrArg (Prod.mk c) (csem_injective (congrArg Prod.snd h))

/-! ## Slots held -/

/-- The elements of slot `s`. -/
abbrev slotSet (s : Fin 16) : Finset S16x128x1024.Idx := (slotM s).view.set

/-- Device `c` holds slot `s` at share `q`, at contents `f`. -/
def slotPts (c : Dev nD) (s : Fin 16) (q : PosShare TreeShare) (f : (cc0_scratch0 : Ref sig .tc).ty.Contents (Elt F)) : sProp 𝕄 :=
  (slotM s).view.loc (c : Thread nD τ) ↦[(slotM s).view.set]{q} f

omit [FloatOps F] in
instance slotPts_storable (c : Dev nD) (s) (q) (f) : BI.Storable (upEmb : UEmb _ 𝕄) (slotPts (F := F) c s q f) := by
  unfold slotPts; infer_instance

omit [FloatOps F] in
/-- Contents that agree on the slot are one. -/
theorem slotPts_congr (c : Dev nD) (s : Fin 16) (q) {f g : (cc0_scratch0 : Ref sig .tc).ty.Contents (Elt F)}
    (h : ∀ i : S16x128x1024.Idx, (i 0).val = s.val → f i = g i) : slotPts c s q f = (slotPts c s q g : sProp 𝕄) := by
  unfold slotPts
  exact pointsTo_congr fun i hi => h i ((mem_slot s i).mp hi)

omit [FloatOps F] in
theorem slotPts_halves (c : Dev nD) (s : Fin 16) (f : (cc0_scratch0 : Ref sig .tc).ty.Contents (Elt F)) :
    (slotPts c s fullShare f : sProp 𝕄) ⊣⊢ iprop(slotPts c s fullShare.left f ∗ slotPts c s fullShare.right f) :=
  pointsTo_share (PosShare.mem_left_op_right fullShare)

omit [FloatOps F] in
theorem slot_disjoint : ∀ a ∈ (Finset.univ : Finset (Fin 16)), ∀ b ∈ (Finset.univ : Finset (Fin 16)), a ≠ b →
    Disjoint (slotSet a) (slotSet b) := by
  intro a _ b _ hab
  rw [Finset.disjoint_left]
  intro i ha hb
  exact hab (Fin.ext (((mem_slot a i).mp ha).symm.trans ((mem_slot b i).mp hb)))

omit [FloatOps F] in
theorem slot_cover : (Finset.univ : Finset (Fin 16)).biUnion slotSet = Finset.univ := by
  ext i
  refine ⟨fun _ => Finset.mem_univ _, fun _ => Finset.mem_biUnion.mpr ⟨(i : S16x128x1024.Idx) 0, Finset.mem_univ _, (mem_slot _ i).mpr rfl⟩⟩

omit [FloatOps F] in
/-- The whole scratch is its slots. -/
theorem scratch_slots (c : Dev nD) (f : (cc0_scratch0 : Ref sig .tc).ty.Contents (Elt F)) :
    (((c : Thread nD τ).loc cc0_scratch0) ↦{fullShare} f : sProp 𝕄)
      = bigSep Finset.univ fun a : Option T => slotPts c (slotOf c a) fullShare f := by
  have h1 : (((c : Thread nD τ).loc cc0_scratch0) ↦{fullShare} f : sProp 𝕄)
      = bigSep Finset.univ fun s : Fin 16 => slotPts c s fullShare f := by
    have := pointsTo_biUnion (Ix := Unit) (Name := ℕ) (U := UU) (Lvl := ℕ) (ℓ := (c : Thread nD τ).loc cc0_scratch0)
      (q := fullShare) (f := f) (Finset.univ : Finset (Fin 16)) slotSet slot_disjoint
    rw [slot_cover] at this
    exact this
  rw [h1, bigSep_univ_equiv (Equiv.ofBijective (slotOf c) ⟨slotOf_injective c, slotOf_surjective c⟩)
    (fun s : Fin 16 => slotPts c s fullShare f)]
  rfl

/-! ## The schedule -/

/-- The slot of `c`'s neighbour that `c`'s transfer `t` writes, its contents whatever they are. -/
def Land (t : T) (c : Dev nD) : sProp 𝕄 := iprop(∃ f, slotPts (F := F) (peer t c) (src t c) fullShare f)

/-- The half of its source that a transfer reads through. -/
def half : T → PosShare TreeShare | .inl _ => fullShare.left | .inr _ => fullShare.right

/-- What a duty of device `c`'s cell `j` hands `c`. -/
def pay (c : Dev nD) : J → Bool → sProp 𝕄
  | none, true => bigSep Finset.univ fun k : Fin 7 => Land (.inl k) c
  | none, false => bigSep Finset.univ fun k : Fin 8 => Land (.inr k) c
  | some (t, false), _ => slotPts c (src t c) (half t) (filled m ρ)
  | some (t, true), _ => slotPts c (land t c) fullShare (filled m ρ)

instance pay_storable (c : Dev nD) (j : J) (d : Bool) : BI.Storable (upEmb : UEmb _ 𝕄) (pay (F := F) m ρ c j d) := by
  unfold pay Land; split <;> infer_instance

open Classical in
/-- One round, round 0: a barrier cell has two duties of one unit, a transfer's cells one duty of the transfer's credit. -/
def Rd : Rounds.Schedule (GSem nD τ sig) Bool 𝕄 where
  duties g r := if r = 0 ∧ g.1.2 = .tc then Function.extend csem (fun j => if j = none then Finset.univ else {false}) (fun _ => ∅) g.2 else ∅
  unitless _ := False
  amount g _ _ := if g.2 = csem none then 1 else N
  payload g _ d := Function.extend csem (fun j => pay m ρ g.1.1 j d) (fun _ => iprop(emp)) g.2
  amount_pos g _ _ _ := by
    by_cases h : g.2 = csem none
    · rw [if_pos h]; exact Nat.one_pos
    · rw [if_neg h]; exact N_pos

instance Rd_payload_storable (g : GSem nD τ sig) (r : ℕ) (d : Bool) :
    BI.Storable (upEmb : UEmb _ 𝕄) ((Rd (F := F) m ρ).payload g r d) := by
  dsimp only [Rd]; unfold Function.extend
  split <;> infer_instance

section Sched
variable (c : Dev nD) (t : T) (b : Bool)

theorem payload_eq (j : J) (d : Bool) : (Rd (F := F) m ρ).payload (kcell (c, j)) 0 d = pay m ρ c j d := by
  dsimp only [Rd]; exact csem_injective.extend_apply _ _ j
theorem duties_bar : (Rd (F := F) m ρ).duties (barCell c) 0 = Finset.univ := by
  dsimp only [Rd]; rw [if_pos ⟨rfl, rfl⟩, csem_injective.extend_apply, if_pos rfl]
theorem duties_dma : (Rd (F := F) m ρ).duties (kcell (c, some (t, b))) 0 = {false} := by
  dsimp only [Rd]; rw [if_pos ⟨rfl, rfl⟩, csem_injective.extend_apply, if_neg (by simp)]
theorem duties_later (g : GSem nD τ sig) : ∀ r, 1 ≤ r → (Rd (F := F) m ρ).duties g r = ∅ :=
  fun r hr => by dsimp only [Rd]; rw [if_neg fun h => by omega]
theorem amount_bar (d : Bool) : (Rd (F := F) m ρ).amount (barCell c) 0 d = 1 := by dsimp only [Rd]; exact if_pos rfl
theorem amount_dma (d : Bool) : (Rd (F := F) m ρ).amount (kcell (c, some (t, b))) 0 d = N := by
  dsimp only [Rd]; exact if_neg fun h => by cases csem_injective h
theorem expect_bar : (Rd (F := F) m ρ).expect (barCell c) 0 = 2 := by
  unfold Schedule.expect Schedule.amountOf
  rw [duties_bar, Finset.sum_congr rfl fun d _ => amount_bar m ρ c d, Finset.sum_const, Finset.card_univ, Fintype.card_bool, smul_eq_mul]
theorem expect_dma : (Rd (F := F) m ρ).expect (kcell (c, some (t, b))) 0 = N := by
  unfold Schedule.expect Schedule.amountOf; rw [duties_dma, Finset.sum_singleton, amount_dma]

/-- A barrier cell's two payloads together: every slot that `c`'s transfers write on its neighbours. -/
theorem rest_bar : bigSep ((Rd (F := F) m ρ).duties (barCell c) 0 \ ∅) (fun d => (Rd (F := F) m ρ).payload (barCell c) 0 d)
    = bigSep Finset.univ fun t : T => Land t c := by
  rw [Finset.sdiff_empty, duties_bar, bigSep_univ_eq_bigSepL [true, false] (by decide) (by decide), bigSepL_cons_cons, bigSepL_singleton,
    payload_eq, payload_eq, bigSep_univ_sum]
  rfl
theorem rest_dma : bigSep ((Rd (F := F) m ρ).duties (kcell (c, some (t, b))) 0 \ ∅) (fun d => (Rd (F := F) m ρ).payload (kcell (c, some (t, b))) 0 d)
    = pay m ρ c (some (t, b)) false := by
  rw [Finset.sdiff_empty, duties_dma, bigSep_singleton, payload_eq]

end Sched

/-! ## Levels -/

/-- Barrier cells at 1, a transfer's receive cell at 2 and its step, everything else (staging, send) at 0. -/
def lev : J → ℕ | none => 1 | some (t, true) => 2 + t.step | some (_, false) => 0
def L (g : GSem nD τ sig) : Finset Unit := if g.1.2 = .tc then {()} else ∅
open Classical in
def lv (g : GSem nD τ sig) (_ : Unit) : ℕ := Function.extend csem lev (fun _ => 0) g.2

theorem L_of_ne (g : GSem nD τ sig) (h : g.1.2 ≠ .tc) : L g = ∅ := if_neg h
theorem lv_cell (c : Dev nD) (j : J) : lv (kcell (c, j)) () = lev j := csem_injective.extend_apply _ _ j

/-- A wait at a level below those of all cells owed. -/
theorem mayWait_of (c : Dev nD) (sm : SemLoc sig) (b : ℕ) (hb : lv ((c : Thread nD τ), sm) () ≤ b) (O : CellTallies nD τ sig Unit)
    (hO : ∀ g u, 0 < O g u → ∃ d j, g = kcell (d, j) ∧ b < lev j) : (levAts L lv : sProp 𝕄) ⊢ MayWait (c : Thread nD τ) sm () O :=
  MayOwe.of_cut (L := L) (lev := lv) b
    (fun p hp => by rw [Finset.mem_singleton.mp hp, L, if_pos rfl]; exact Finset.mem_singleton_self _)
    (fun g u hg => by obtain ⟨d, j, rfl, _⟩ := hO g u hg; rw [L, if_pos rfl]; exact Finset.mem_singleton_self _)
    (fun p hp => by rw [Finset.mem_singleton.mp hp]; exact hb)
    (fun g u hg => by obtain ⟨d, j, rfl, hj⟩ := hO g u hg; cases u; rw [lv_cell]; exact hj)

/-! ## What each device owes -/

/-- Before step `k`: the credit of every transfer still to be sent. -/
def Orem (c : Dev nD) (k : ℕ) : CellTallies nD τ sig Unit :=
  ∑ t ∈ Finset.univ.filter (fun t : T => k ≤ t.step), tallyAt (recvCell (peer t c) t) () N
/-- After the first signal (to the left), and at launch. -/
def O₁ (c : Dev nD) : CellTallies nD τ sig Unit := Orem c 0 + tallyAt (barCell (rt c)) () 1
def O₀ (c : Dev nD) : CellTallies nD τ sig Unit := O₁ c + tallyAt (barCell (lf c)) () 1

theorem Orem_step (c : Dev nD) (k : Fin 7) : Orem c k.val
    = (Orem c (k.val + 1) + tallyAt (recvCell (lf c) (.inr k.castSucc)) () N) + tallyAt (recvCell (rt c) (.inl k)) () N := by
  have h : ∀ k : Fin 7, Finset.univ.filter (fun t : T => k.val ≤ t.step)
      = insert (.inl k) (insert (.inr k.castSucc) (Finset.univ.filter fun t : T => k.val + 1 ≤ t.step)) := by decide +kernel
  unfold Orem
  rw [h k, Finset.sum_insert (by revert k; decide +kernel), Finset.sum_insert (by revert k; decide +kernel), add_comm, add_comm (tallyAt _ _ _)]
  rfl
theorem Orem_last (c : Dev nD) : Orem c 7 = 0 + tallyAt (recvCell (lf c) (.inr 7)) () N := by
  have h : Finset.univ.filter (fun t : T => 7 ≤ t.step) = {.inr 7} := by decide +kernel
  unfold Orem; rw [h, Finset.sum_singleton, zero_add]; rfl

theorem Orem_pos {c : Dev nD} {k : ℕ} {g : GSem nD τ sig} {u : Unit} (h : 0 < Orem c k g u) :
    ∃ t : T, k ≤ t.step ∧ g = recvCell (peer t c) t := by
  by_contra hn
  have : Orem c k g u = 0 := by
    unfold Orem
    rw [Finset.sum_apply, Finsupp.finset_sum_apply]
    refine Finset.sum_eq_zero fun t ht => ?_
    rw [tallyAt_apply, if_neg]
    exact fun h' => hn ⟨t, (Finset.mem_filter.mp ht).2, h'.1⟩
  omega

theorem O₀_pos {c : Dev nD} {g : GSem nD τ sig} {u : Unit} (h : 0 < O₀ c g u) : ∃ d j, g = kcell (d, j) ∧ 0 < lev j := by
  unfold O₀ O₁ at h
  rw [Pi.add_apply, Finsupp.add_apply, Pi.add_apply, Finsupp.add_apply, tallyAt_apply, tallyAt_apply] at h
  by_cases h1 : 0 < Orem c 0 g u
  · obtain ⟨t, _, rfl⟩ := Orem_pos h1
    exact ⟨_, _, rfl, by show 0 < 2 + t.step; omega⟩
  by_cases h2 : g = barCell (rt c) ∧ u = ()
  · exact ⟨_, _, h2.1, Nat.one_pos⟩
  by_cases h3 : g = barCell (lf c) ∧ u = ()
  · exact ⟨_, _, h3.1, Nat.one_pos⟩
  rw [if_neg h2, if_neg h3] at h
  omega

/-- After step `k`'s sends a device may wait for anything of level at most `k + 2`. -/
theorem mayWait_step (c : Dev nD) (j : J) (k : ℕ) (hj : lev j ≤ k + 2) :
    (levAts L lv : sProp 𝕄) ⊢ MayWait (c : Thread nD τ) (csem j) () (Orem c (k + 1)) :=
  mayWait_of c (csem j) (k + 2) (by rw [lv_cell]; exact hj) _ fun g u hg => by
    obtain ⟨t, ht, rfl⟩ := Orem_pos hg
    exact ⟨_, _, rfl, by show k + 2 < 2 + t.step; omega⟩

theorem mayWait_bar (c : Dev nD) : (levAts L lv : sProp 𝕄) ⊢ MayWait (c : Thread nD τ) (csem none) () (Orem c 0) :=
  mayWait_of c (csem none) 1 (by rw [lv_cell]; exact le_refl 1) _ fun g u hg => by
    obtain ⟨t, ht, rfl⟩ := Orem_pos hg
    exact ⟨_, _, rfl, by show 1 < 2 + t.step; omega⟩

theorem mayWait_stage (c : Dev nD) (q : DmaSem sig) (hq : ∀ j : T × Bool, dsem j ≠ q) (O : CellTallies nD τ sig Unit) (hO : O = O₀ c ∨ O = 0) :
    (levAts L lv : sProp 𝕄) ⊢ MayWait (c : Thread nD τ) (.dma q) () O := by
  rcases hO with rfl | rfl
  · refine mayWait_of c _ 0 (le_of_eq ?_) _ fun g u hg => O₀_pos hg
    unfold lv
    refine Function.extend_apply' _ _ _ ?_
    rintro ⟨_ | j, hj⟩
    · cases hj
    · exact hq j (SemLoc.dma.inj hj)
  · rw [MayWait_zero]; iintro -; iempintro

end Cert.Exchange

end
-- ==== Proof.Effects.lean ====
/-
# One transfer's send and waits, and the loads from a slot
-/
module

public import proofs.«01_k».proof.Proof.Schedule

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## What never changes: every cell's invariant, and that every cell has reached round 0 -/

variable (K : Dev nD × J → ℕ)

def records : sProp 𝕄 :=
  iprop((bigSep Finset.univ fun cj : Dev nD × J => cellInv ER (Rd m ρ) (K cj) (kcell cj))
    ∗ bigSep Finset.univ fun cj : Dev nD × J => reached ER (kcell cj) 0)

instance records_persistent : BI.Persistent (records m ρ K) := by unfold records; infer_instance

theorem inv_at (cj : Dev nD × J) : records m ρ K ⊢ cellInv ER (Rd m ρ) (K cj) (kcell cj) := by
  have h : (bigSep Finset.univ fun cj : Dev nD × J => (cellInv ER (Rd m ρ) (K cj) (kcell cj) : sProp 𝕄)) ⊢ cellInv ER (Rd m ρ) (K cj) (kcell cj) :=
    bigSep_elim (Finset.mem_univ cj)
  unfold records
  iintro ⟨H, -⟩
  iapply h; iexact H
theorem reached_at (cj : Dev nD × J) : records m ρ K ⊢ (reached ER (kcell cj) 0 : sProp 𝕄) := by
  have h : (bigSep Finset.univ fun cj : Dev nD × J => (reached ER (kcell cj) 0 : sProp 𝕄)) ⊢ reached ER (kcell cj) 0 :=
    bigSep_elim (Finset.mem_univ cj)
  unfold records
  iintro ⟨-, H⟩
  iapply h; iexact H

/-- What `c` needs of its transfer `t` besides the slots: its positions at the two cells, the two duties that the transfer
    discharges, -/
def ticket (c : Dev nD) (t : T) : sProp 𝕄 :=
  iprop(atPos ER (sendCell c t) 0 ∅ 0 ∗ atPos ER (recvCell c t) 0 ∅ 0
    ∗ dutyTok ER (recvCell (peer t c) t) 0 false ∗ dutyTok ER (sendCell c t) 0 false)
/-- and the credit its receive cell will have. -/
def kit (c : Dev nD) (t : T) : sProp 𝕄 := iprop(ticket c t ∗ cred (tallyAt (recvCell c t) () N))

/-! ## Sending -/

omit [FloatOps F] in
theorem write_slot (s : Fin 16) (f g : (cc0_scratch0 : Ref sig .tc).ty.Contents (Elt F)) (i : S16x128x1024.Idx) (h : (i 0).val = s.val) :
    (slotM s).view.write (Elt F) f ((slotM s).view.read (Elt F) g) Finset.univ i = g i := by
  rw [View.write_read_eq_piecewise]
  exact Finset.piecewise_eq_of_mem _ _ _ ((mem_slot s i).mpr h)

theorem wp_send (t : T) (c n : Dev nD) (hn : n = peer t c) (s1 s2 : DmaSem sig) (h1 : s1 = dsem (t, false)) (h2 : s2 = dsem (t, true))
    (off : Fin 3 → ℕ) (hi : ∀ a, off a + S1x128x1024.size a ≤ S16x128x1024.size a) (hoff : off = ![(src t c).val, 0, 0])
    {hsc : (slotAt off hi : Memref sig (Dev.tc n : Thread nD τ).2.kind .vmem S128x1024 .bf16).view.ref.isScScratch = false}
    {hsrc : (slotAt off hi).view.WordExact} {hdst : (slotAt off hi).view.WordExact}
    {hsem : DmaTarget.Typed .vmem (.dma s2) (.remote (Dev.tc n : Thread nD τ) (slotAt off hi) (.dma s1) hsc)}
    {α : Type} {Q : α → sProp 𝕄} {k : PUnit → Prog (TpuEff nD τ sig (Elt F) Λ₀ .tc) α}
    (O O' : CellTallies nD τ sig Unit) (hO : O' = O + tallyAt (recvCell (peer t c) t) () N) (W : Waits sig Unit) :
    iprop(records m ρ K ∗ slotPts c (src t c) (half t) (filled m ρ) ∗ Land t c ∗ owes (c : Thread nD τ) O' W
        ∗ dutyTok ER (recvCell (peer t c) t) 0 false ∗ dutyTok ER (sendCell c t) 0 false)
      ⊢ iprop(((cred (tallyAt (sendCell c t) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotAt off hi) (.remote (Dev.tc n : Thread nD τ) (slotAt off hi) (.dma s1) hsc) (.dma s2) hsrc hdst hsem) k) Q) := by
  subst hn h1 h2 hoff
  have key := fun fn => Rounds.wp_send_pointsTo (defs := defs₀ (F := F)) (Γ := .empty) 𝒱₀ ER (Rd m ρ) (c : Thread nD τ) none (κ₁ := K (c, some (t, false))) (κ₂ := K (peer t c, some (t, true)))
    (c' := (peer t c : Thread nD τ)) (src := slotM (src t c)) (dst := slotM (src t c)) (sS := .dma (dsem (t, false))) (sem := .dma (dsem (t, true)))
    (hsc := hsc) (hsrc := hsrc) (hdst := hdst) (hsem := hsem) (k := k) (Q := Q) (Es := Set.univ)
    (r₁ := 0) (r₂ := 0) (d₁ := false) (d₂ := false) (q := half t) (fs := filled m ρ) (fd := fn)
    (by show false ∈ (Rd m ρ).duties (kcell (c, some (t, false))) 0; rw [duties_dma]; exact Finset.mem_singleton_self _)
    (by show false ∈ (Rd m ρ).duties (kcell (peer t c, some (t, true))) 0; rw [duties_dma]; exact Finset.mem_singleton_self _)
    () () N rfl (amount_dma m ρ c t false false) (amount_dma m ρ (peer t c) t true false) O hO (W := W)
    (by show _ ⊢ (Rd m ρ).payload (kcell (c, some (t, false))) 0 false; rw [payload_eq]; exact BI.Entails.refl _)
    (by
      show _ ⊢ (Rd m ρ).payload (kcell (peer t c, some (t, true))) 0 false
      rw [payload_eq]
      show _ ⊢ slotPts (peer t c) (land t (peer t c)) fullShare (filled m ρ)
      rw [land_peer]
      exact Entails.of_eq (pointsTo_congr fun i hi => write_slot (src t c) fn (filled m ρ) i ((mem_slot _ i).mp hi)))
  unfold Land slotPts
  iintro ⟨#HR, Hs, ⟨%fn, Hd⟩, HO, Ht1, Ht2⟩
  iapply (key fn)
  isplitr; · iapply (inv_at m ρ K (c, some (t, false))); iexact HR
  isplitr; · iapply (inv_at m ρ K (peer t c, some (t, true))); iexact HR
  isplitl [Hs]; · iexact Hs
  isplitl [Hd]; · iexact Hd
  isplitl [HO]; · iexact HO
  isplitl [Ht2]; · iexact Ht2
  isplitr; · iapply (reached_at m ρ K (c, some (t, false))); iexact HR
  isplitl [Ht1]; · iexact Ht1
  iapply (reached_at m ρ K (peer t c, some (t, true))); iexact HR

/-! ## Waiting -/

theorem wp_wait (t : T) (b : Bool) (c : Dev nD) (s : DmaSem sig) (hs : s = dsem (t, b))
    (off : Fin 3 → ℕ) (hi : ∀ a, off a + S1x128x1024.size a ≤ S16x128x1024.size a)
    {hsrc : (slotAt off hi).view.WordExact} {hdst : (slotAt off hi).view.WordExact}
    {α : Type} {Q : α → sProp 𝕄} {k : PUnit → Prog (TpuEff nD τ sig (Elt F) Λ₀ .tc) α}
    (O : CellTallies nD τ sig Unit) (hO : (levAts L lv : sProp 𝕄) ⊢ MayWait (c : Thread nD τ) (csem (some (t, b))) () O) (W : Waits sig Unit) :
    iprop(records m ρ K ∗ levAts L lv ∗ atPos ER (kcell (c, some (t, b))) 0 ∅ 0 ∗ cred (tallyAt (kcell (c, some (t, b))) () N) ∗ owes (c : Thread nD τ) O W)
      ⊢ iprop(((pay m ρ c (some (t, b)) false ∗ semVal (kcell (c, some (t, b))) 0 ∗ ∃ W', owes (c : Thread nD τ) O W')
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 s (slotAt off hi) (slotAt off hi) hsrc hdst) k) Q) := by
  subst hs
  iintro ⟨#HR, #HL, Hat, Hc, HO⟩ Hk
  iapply (Rounds.wp_wait_rest_token 𝒱₀ ER (Rd m ρ) (c : Thread nD τ) none (κ := K (c, some (t, b))) (sm := csem (some (t, b)))
      (wpE_waitDma2_eq 𝒱₀ (c : Thread nD τ) none Set.univ) (Set.mem_univ _) () (O := O) (W := W) (R := 0) (m := 0) (T := ∅)
      (by show 0 + _ = (Rd m ρ).expect (kcell (c, some (t, b))) 0; rw [expect_dma, Nat.zero_add])) $$ [Hc HO Hat]
  · isplitr; · iapply (inv_at m ρ K (c, some (t, b))); iexact HR
    isplitl [Hc]; · iexact Hc
    isplitl [HO]; · iexact HO
    isplitr; · iapply hO; iexact HL
    iexact Hat
  iintro ⟨HO, Hat, -, Hpay⟩
  ihave Hp := (Entails.of_eq (rest_dma m ρ c t b)) $$ Hpay
  imod (Rounds.cell_close ER (Rd m ρ) (Set.mem_univ (K (c, some (t, b)))) (fun h => h) (R := 0 + 1) (duties_later m ρ (kcell (c, some (t, b))))) $$ [Hat] with Hz
  · isplitr; · iapply (inv_at m ρ K (c, some (t, b))); iexact HR
    iexact Hat
  iapply Hk
  isplitl [Hp]; · iexact Hp
  isplitl [Hz]; · iexact Hz
  iexists (insert (csem (some (t, b)), ()) W); iexact HO

/-! ## Loading a slot -/

theorem wp_load_slot (c : Dev nD) (s : Fin 16) (q : PosShare TreeShare)
    (off : Fin 3 → ℕ) (hi : ∀ a, off a + S1x128x1024.size a ≤ S16x128x1024.size a) (hoff : off = ![s.val, 0, 0])
    {hl : (cM : Memref sig .tc .vmem S16x128x1024 .bf16).view.LoadsAt (slotRect off hi).toLoadRect}
    {α : Type} {Q : α → sProp 𝕄} {k : Vec F S1x128x1024 .bf16 → Prog (TpuEff nD τ sig (Elt F) Λ₀ .tc) α} :
    slotPts c s q (filled m ρ)
      ⊢ iprop((slotPts c s q (filled m ρ) -∗ wp frame (wpE (defs₀ (F := F)) 𝒱₀ (c : Thread nD τ) none) Set.univ (k (blk m ρ s)) Q)
          -∗ wp frame (wpE (defs₀ (F := F)) 𝒱₀ (c : Thread nD τ) none) Set.univ (.op (.load cM (slotRect off hi).toLoadRect hl) k) Q) := by
  subst hoff
  have h := wp_load_rect (defs := defs₀ (F := F)) (Γ := .empty) 𝒱₀ (c : Thread nD τ) none Set.univ (m := cM) (r := slotRect ![s.val, 0, 0] (slot_inb s)) (hl := hl) (k := k) (Q := Q)
    (S := slotSet s) (q := q) (f := filled m ρ) (subset_of_eq (slot_set s).symm)
  rw [show (cM.access (slotRect ![s.val, 0, 0] (slot_inb s))).read (Elt F) (filled m ρ) = blk m ρ s from read_filled m ρ s] at h
  exact h

end Cert.Exchange

end
-- ==== Proof.Step.lean ====
/-
# The waits of one step, and a whole step
-/
module

public import proofs.«01_k».proof.Proof.Effects

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × J → ℕ)

/-- The result's staging buffer. -/
def outPts (c : Dev nD) (f : (cc0_stg3_0 : Ref sig .tc).ty.Contents (Elt F)) : sProp 𝕄 :=
  ((c : Thread nD τ).loc cc0_stg3_0) ↦{fullShare} f

/-- A transfer's two cells closed. -/
def closed (c : Dev nD) (t : T) : sProp 𝕄 := iprop(semVal (sendCell c t) 0 ∗ semVal (recvCell c t) 0)

/-- The cells of a transfer before its waits. -/
def waiting (c : Dev nD) (t : T) : sProp 𝕄 :=
  iprop(atPos ER (sendCell c t) 0 ∅ 0 ∗ atPos ER (recvCell c t) 0 ∅ 0
    ∗ cred (tallyAt (sendCell c t) () N) ∗ cred (tallyAt (recvCell c t) () N))

/-- Both waits of one transfer. -/
theorem wp_waits (t : T) (c : Dev nD) (k : ℕ) (hk : t.step = k) (s1 s2 : DmaSem sig) (h1 : s1 = dsem (t, false)) (h2 : s2 = dsem (t, true))
    (off1 off2 : Fin 3 → ℕ) (hi1 : ∀ a, off1 a + S1x128x1024.size a ≤ S16x128x1024.size a) (hi2 : ∀ a, off2 a + S1x128x1024.size a ≤ S16x128x1024.size a)
    {p1 p2 : (slotAt off1 hi1).view.WordExact} {p3 p4 : (slotAt off2 hi2).view.WordExact}
    {α : Type} {Q : α → sProp 𝕄} {k' : PUnit → Prog (TpuEff nD τ sig (Elt F) Λ₀ .tc) α} :
    iprop(records m ρ K ∗ levAts L lv ∗ waiting c t ∗ ∃ W, owes (c : Thread nD τ) (Orem c (k + 1)) W)
      ⊢ iprop(((slotPts c (src t c) (half t) (filled m ρ) ∗ slotPts c (land t c) fullShare (filled m ρ) ∗ closed c t
              ∗ ∃ W, owes (c : Thread nD τ) (Orem c (k + 1)) W)
            -∗ wp frame (wpE (defs₀ (F := F)) 𝒱₀ (c : Thread nD τ) none) Set.univ (k' ⟨⟩) Q)
          -∗ wp frame (wpE (defs₀ (F := F)) 𝒱₀ (c : Thread nD τ) none) Set.univ
              (.op (.waitDma2 s1 (slotAt off1 hi1) (slotAt off1 hi1) p1 p2) fun _ =>
                .op (.waitDma2 s2 (slotAt off2 hi2) (slotAt off2 hi2) p3 p4) k') Q) := by
  unfold waiting closed
  iintro ⟨#HR, #HL, ⟨Ha1, Ha2, Hc1, Hc2⟩, %W, HO⟩ Hk
  iapply (wp_wait m ρ K t false c s1 h1 off1 hi1 (Orem c (k + 1)) (mayWait_step c _ k (Nat.zero_le _)) W) $$ [Ha1 Hc1 HO]
  · isplitr; · iexact HR
    isplitr; · iexact HL
    isplitl [Ha1]; · iexact Ha1
    isplitl [Hc1]; · iexact Hc1
    iexact HO
  iintro ⟨Hp1, Hz1, %W1, HO⟩
  iapply (wp_wait m ρ K t true c s2 h2 off2 hi2 (Orem c (k + 1)) (mayWait_step c _ k (by show 2 + t.step ≤ k + 2; omega)) W1) $$ [Ha2 Hc2 HO]
  · isplitr; · iexact HR
    isplitr; · iexact HL
    isplitl [Ha2]; · iexact Ha2
    isplitl [Hc2]; · iexact Hc2
    iexact HO
  iintro ⟨Hp2, Hz2, HO⟩
  iapply Hk
  unfold pay
  isplitl [Hp1]; · iexact Hp1
  isplitl [Hp2]; · iexact Hp2
  isplitl [Hz1 Hz2]
  · isplitl [Hz1] <;> iassumption
  iexact HO

abbrev oRect : Rect S2048x1024 := Rect.unit (s := S2048x1024) ![0, 0] S2048x1024.size inb_S2048x1024_S2048x1024_0_0

omit [FloatOps F] in
theorem hz2 : (![0, 0] : Fin 2 → Nat) = fun _ => 0 := funext fun a => by fin_cases a <;> rfl

theorem wp_load_out (c : Dev nD) (f : (cc0_stg3_0 : Ref sig .tc).ty.Contents (Elt F)) {hl : oM.view.LoadsAt oRect.toLoadRect}
    {α : Type} {Q : α → sProp 𝕄} {k : Vec F S2048x1024 .f32 → Prog (TpuEff nD τ sig (Elt F) Λ₀ .tc) α} :
    outPts c f ⊢ iprop((outPts c f -∗ wp frame (wpE (defs₀ (F := F)) 𝒱₀ (c : Thread nD τ) none) Set.univ (k f) Q)
      -∗ wp frame (wpE (defs₀ (F := F)) 𝒱₀ (c : Thread nD τ) none) Set.univ (.op (.load oM oRect.toLoadRect hl) k) Q) := by
  have h := wp_load (defs := defs₀ (F := F)) (Γ := .empty) 𝒱₀ (c : Thread nD τ) none Set.univ (m := oM) (r := oRect.toLoadRect) (hl := hl) (k := k) (Q := Q)
    (S := Finset.univ) (q := fullShare) (f := f) (Finset.subset_univ _)
  rw [show oM.view.readAt (Elt F) oRect.toLoadRect f = f from Memref.readAt_unit_zero (Elt F) cc0_stg3_0 hz2 _ f] at h
  exact h

theorem wp_store_out (c : Dev nD) (f w : (cc0_stg3_0 : Ref sig .tc).ty.Contents (Elt F)) {hx : (oM.access oRect).Stores Finset.univ}
    {hm : (Finset.univ : Finset oRect.shape.Idx) = Finset.univ ∨ ∀ a, oRect.stride a = 1}
    {α : Type} {Q : α → sProp 𝕄} {k : PUnit → Prog (TpuEff nD τ sig (Elt F) Λ₀ .tc) α} :
    outPts c f ⊢ iprop((outPts c w -∗ wp frame (wpE (defs₀ (F := F)) 𝒱₀ (c : Thread nD τ) none) Set.univ (k ⟨⟩) Q)
      -∗ wp frame (wpE (defs₀ (F := F)) 𝒱₀ (c : Thread nD τ) none) Set.univ (.op (.store oM oRect w Finset.univ hx hm) k) Q) := by
  have h := wp_store (defs := defs₀ (F := F)) (Γ := .empty) 𝒱₀ (c : Thread nD τ) none Set.univ (m := oM) (r := oRect) (w := w) (Mk := Finset.univ) (hx := hx) (hm := hm) (k := k) (Q := Q)
    (S := Finset.univ) (f := f) (Finset.subset_univ _)
  rw [show (oM.access oRect).write (Elt F) f w Finset.univ = w from Memref.write_access_unit_zero_univ (Elt F) cc0_stg3_0 hz2 _ f w] at h
  exact h

/-- A step with a transfer each way, from slots `c - k` and `c + k`, both blocks added to the result while they go. -/
theorem wp_step (c : Dev nD) (k : Fin 7)
    (n1 n2 : Dev nD) (hn1 : n1 = rt c) (hn2 : n2 = lf c)
    (s1 s2 s3 s4 : DmaSem sig) (h1 : s1 = dsem (.inl k, false)) (h2 : s2 = dsem (.inl k, true)) (h3 : s3 = dsem (.inr k.castSucc, false)) (h4 : s4 = dsem (.inr k.castSucc, true))
    (offR offL offA offB : Fin 3 → ℕ) (hiR : ∀ a, offR a + S1x128x1024.size a ≤ S16x128x1024.size a) (hiL : ∀ a, offL a + S1x128x1024.size a ≤ S16x128x1024.size a)
    (hiA : ∀ a, offA a + S1x128x1024.size a ≤ S16x128x1024.size a) (hiB : ∀ a, offB a + S1x128x1024.size a ≤ S16x128x1024.size a)
    (hR : offR = ![(sR c k.val).val, 0, 0]) (hL : offL = ![(sL c k.val).val, 0, 0])
    (hA : offA = ![(sR c k.val).val, 0, 0]) (hB : offB = ![(sL c k.val).val, 0, 0])
    (pay : Vec F S1x128x1024 .bf16 → Vec F S1x128x1024 .bf16 → Vec F S2048x1024 .f32 → FVec F S2048x1024 .f32)
    (o o' : FVec F S2048x1024 .f32) (hpay : pay (blk m ρ (sR c k.val)) (blk m ρ (sL c k.val)) o = o')
    {e1 : (slotAt offR hiR : Memref sig (Dev.tc n1 : Thread nD τ).2.kind .vmem S128x1024 .bf16).view.ref.isScScratch = false}
    {e2 : (slotAt offL hiL : Memref sig (Dev.tc n2 : Thread nD τ).2.kind .vmem S128x1024 .bf16).view.ref.isScScratch = false}
    {p1 p2 p3 p4 p5 p6 : (slotAt offR hiR).view.WordExact} {q1 q2 q3 q4 q5 q6 : (slotAt offL hiL).view.WordExact}
    {t1 : DmaTarget.Typed .vmem (.dma s2) (.remote (Dev.tc n1 : Thread nD τ) (slotAt offR hiR) (.dma s1) e1)}
    {t2 : DmaTarget.Typed .vmem (.dma s4) (.remote (Dev.tc n2 : Thread nD τ) (slotAt offL hiL) (.dma s3) e2)}
    {l1 : (cM : Memref sig .tc .vmem S16x128x1024 .bf16).view.LoadsAt (slotRect offA hiA).toLoadRect}
    {l2 : (cM : Memref sig .tc .vmem S16x128x1024 .bf16).view.LoadsAt (slotRect offB hiB).toLoadRect}
    {l3 l4 : oM.view.LoadsAt oRect.toLoadRect}
    {hx : (oM.access oRect).Stores Finset.univ} {hm : (Finset.univ : Finset oRect.shape.Idx) = Finset.univ ∨ ∀ a, oRect.stride a = 1}
    {α : Type} {Q : α → sProp 𝕄} {k' : PUnit → Prog (TpuEff nD τ sig (Elt F) Λ₀ .tc) α} :
    iprop(records m ρ K ∗ levAts L lv
        ∗ (slotPts c (sR c k.val) fullShare (filled m ρ) ∗ slotPts c (sL c k.val) fullShare (filled m ρ))
        ∗ (Land (.inl k) c ∗ kit c (.inl k)) ∗ (Land (.inr k.castSucc) c ∗ kit c (.inr k.castSucc))
        ∗ (∃ W, owes (c : Thread nD τ) (Orem c k.val) W) ∗ outPts c o)
      ⊢ iprop((((slotPts c (sR c k.val) fullShare (filled m ρ) ∗ slotPts c (sL c k.val) fullShare (filled m ρ))
              ∗ (slotPts c (sR c (k.val + 1)) fullShare (filled m ρ) ∗ slotPts c (sL c (k.val + 1)) fullShare (filled m ρ))
              ∗ (closed c (.inl k) ∗ closed c (.inr k.castSucc))
              ∗ (∃ W, owes (c : Thread nD τ) (Orem c (k.val + 1)) W) ∗ outPts c o')
            -∗ wp frame (wpE (defs₀ (F := F)) 𝒱₀ (c : Thread nD τ) none) Set.univ (k' ⟨⟩) Q)
          -∗ wp frame (wpE (defs₀ (F := F)) 𝒱₀ (c : Thread nD τ) none) Set.univ
              (.op (.enqueueDma (slotAt offR hiR) (.remote (Dev.tc n1 : Thread nD τ) (slotAt offR hiR) (.dma s1) e1) (.dma s2) p1 p2 t1) fun _ =>
               .op (.enqueueDma (slotAt offL hiL) (.remote (Dev.tc n2 : Thread nD τ) (slotAt offL hiL) (.dma s3) e2) (.dma s4) q1 q2 t2) fun _ =>
               .op (.load cM (slotRect offA hiA).toLoadRect l1) fun A => .op (.load cM (slotRect offB hiB).toLoadRect l2) fun B =>
               .op (.load oM oRect.toLoadRect l3) fun x => .op (.load oM oRect.toLoadRect l4) fun _ =>
               .op (.store oM oRect (pay A B x) Finset.univ hx hm) fun _ =>
               .op (.waitDma2 s1 (slotAt offR hiR) (slotAt offR hiR) p3 p4) fun _ => .op (.waitDma2 s2 (slotAt offR hiR) (slotAt offR hiR) p5 p6) fun _ =>
               .op (.waitDma2 s3 (slotAt offL hiL) (slotAt offL hiL) q3 q4) fun _ => .op (.waitDma2 s4 (slotAt offL hiL) (slotAt offL hiL) q5 q6) k') Q) := by
  subst hpay
  unfold kit ticket
  iintro ⟨#HR, #HL, ⟨HsR, HsL⟩, ⟨HdR, ⟨HaR1, HaR2, HtR1, HtR2⟩, HcR⟩, ⟨HdL, ⟨HaL1, HaL2, HtL1, HtL2⟩, HcL⟩, ⟨%W, HO⟩, Hout⟩ Hk
  ihave HsR' := (slotPts_halves (F := F) c (sR c k.val) (filled m ρ)).1 $$ HsR
  icases HsR' with ⟨HsR1, HsR2⟩
  ihave HsL' := (slotPts_halves (F := F) c (sL c k.val) (filled m ρ)).1 $$ HsL
  icases HsL' with ⟨HsL1, HsL2⟩
  iapply (wp_send m ρ K (.inl k) c n1 hn1 s1 s2 h1 h2 offR hiR hR
    (Orem c (k.val + 1) + tallyAt (recvCell (lf c) (.inr k.castSucc)) () N) (Orem c k.val) (Orem_step c k) W) $$ [HsR1 HdR HO HtR1 HtR2]
  · isplitr; · iexact HR
    isplitl [HsR1]; · iexact HsR1
    isplitl [HdR]; · iexact HdR
    isplitl [HO]; · iexact HO
    isplitl [HtR1] <;> iassumption
  iintro ⟨HcR', HO⟩
  iapply (wp_send m ρ K (.inr k.castSucc) c n2 hn2 s3 s4 h3 h4 offL hiL hL
    (Orem c (k.val + 1)) _ rfl W) $$ [HsL2 HdL HO HtL1 HtL2]
  · isplitr; · iexact HR
    isplitl [HsL2]; · iexact HsL2
    isplitl [HdL]; · iexact HdL
    isplitl [HO]; · iexact HO
    isplitl [HtL1] <;> iassumption
  iintro ⟨HcL', HO⟩
  iapply (wp_load_slot m ρ c (sR c k.val) fullShare.right offA hiA hA) $$ HsR2; iintro HsR2
  iapply (wp_load_slot m ρ c (sL c k.val) fullShare.left offB hiB hB) $$ HsL1; iintro HsL1
  iapply (wp_load_out c o) $$ Hout; iintro Hout
  iapply (wp_load_out c o) $$ Hout; iintro Hout
  iapply (wp_store_out c o) $$ Hout; iintro Hout
  iapply (wp_waits m ρ K (.inl k) c k.val rfl s1 s2 h1 h2 offR offR hiR hiR) $$ [HaR1 HaR2 HcR' HcR HO]
  · isplitr; · iexact HR
    isplitr; · iexact HL
    isplitr [HO]
    · unfold waiting
      isplitl [HaR1]; · iexact HaR1
      isplitl [HaR2]; · iexact HaR2
      isplitl [HcR'] <;> iassumption
    iexists W; iexact HO
  iintro ⟨HsR1, HnR, HzR, HO⟩
  iapply (wp_waits m ρ K (.inr k.castSucc) c k.val rfl s3 s4 h3 h4 offL offL hiL hiL) $$ [HaL1 HaL2 HcL' HcL HO]
  · isplitr; · iexact HR
    isplitr; · iexact HL
    isplitr [HO]
    · unfold waiting
      isplitl [HaL1]; · iexact HaL1
      isplitl [HaL2]; · iexact HaL2
      isplitl [HcL'] <;> iassumption
    iexact HO
  iintro ⟨HsL2, HnL, HzL, HO⟩
  iapply Hk
  isplitl [HsR1 HsR2 HsL1 HsL2]
  · isplitl [HsR1 HsR2]
    · iapply (slotPts_halves (F := F) c (sR c k.val) (filled m ρ)).2
      isplitl [HsR1]; · iexact HsR1
      iexact HsR2
    · iapply (slotPts_halves (F := F) c (sL c k.val) (filled m ρ)).2
      isplitl [HsL1]; · iexact HsL1
      iexact HsL2
  isplitl [HnR HnL]
  · isplitl [HnR]; · iexact HnR
    iexact HnL
  isplitl [HzR HzL]
  · isplitl [HzR] <;> iassumption
  isplitl [HO] <;> iassumption

end Cert.Exchange

end
-- ==== Proof.Body.lean ====
/-
# The body of the kernel on one device, effect by effect
-/
module

public import proofs.«01_k».proof.Proof.Step

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × J → ℕ)

/-! ## Families over the transfers -/

omit [FloatOps F] in
theorem bigSep_opt {I : Type} [Fintype I] [DecidableEq I] (Φ : Option I → sProp 𝕄) :
    bigSep Finset.univ Φ = iprop(Φ none ∗ bigSep Finset.univ fun i => Φ (some i)) := by
  rw [bigSep_univ_equiv ((Equiv.sumComm PUnit.{1} I).trans (Equiv.optionEquivSumPUnit I).symm) Φ, bigSep_univ_sum,
    bigSep_univ_of_subsingleton PUnit.unit.{1}]
  rfl

omit [FloatOps F] in
theorem bigSep_sides (Φ : T → sProp 𝕄) : bigSep Finset.univ Φ
    = iprop((bigSep Finset.univ fun k : Fin 7 => Φ (.inl k)) ∗ bigSep Finset.univ fun k : Fin 8 => Φ (.inr k)) := bigSep_univ_sum Φ

omit [FloatOps F] in
/-- A family over the transfers, step by step; the last step has one transfer. -/
theorem bigSep_steps (Φ : T → sProp 𝕄) : bigSep Finset.univ Φ
    = iprop((Φ (.inl 0) ∗ Φ (.inl 1) ∗ Φ (.inl 2) ∗ Φ (.inl 3) ∗ Φ (.inl 4) ∗ Φ (.inl 5) ∗ Φ (.inl 6))
        ∗ Φ (.inr 0) ∗ Φ (.inr 1) ∗ Φ (.inr 2) ∗ Φ (.inr 3) ∗ Φ (.inr 4) ∗ Φ (.inr 5) ∗ Φ (.inr 6) ∗ Φ (.inr 7)) := by
  rw [bigSep_univ_sum, bigSep_univ_eq_bigSepL [0, 1, 2, 3, 4, 5, 6] (by decide) (by decide),
    bigSep_univ_eq_bigSepL [0, 1, 2, 3, 4, 5, 6, 7] (by decide) (by decide)]
  simp only [bigSepL_cons_cons, bigSepL_singleton]
  rfl

/-! ## The slots handed to the neighbours -/

omit [FloatOps F] in
theorem land_of_slot (t : T) (c : Dev nD) (f : (cc0_scratch0 : Ref sig .tc).ty.Contents (Elt F)) :
    (slotPts c (land t c) fullShare f : sProp 𝕄) ⊢ Land t (origin t c) := by
  have h := land_peer t (origin t c)
  rw [peer_origin] at h
  unfold Land
  rw [peer_origin, ← h]
  iintro H; iexists f; iexact H

theorem pay_right (c : Dev nD) (f : (cc0_scratch0 : Ref sig .tc).ty.Contents (Elt F)) :
    (bigSep Finset.univ fun k : Fin 7 => (slotPts c (land (.inl k) c) fullShare f : sProp 𝕄)) ⊢ pay m ρ (lf c) none true :=
  bigSep_mono fun k _ => land_of_slot (.inl k) c f
theorem pay_left (c : Dev nD) (f : (cc0_scratch0 : Ref sig .tc).ty.Contents (Elt F)) :
    (bigSep Finset.univ fun k : Fin 8 => (slotPts c (land (.inr k) c) fullShare f : sProp 𝕄)) ⊢ pay m ρ (rt c) none false :=
  bigSep_mono fun k _ => land_of_slot (.inr k) c f

theorem Orem_end (c : Dev nD) : Orem c 8 = 0 := by
  have h : Finset.univ.filter (fun t : T => 8 ≤ t.step) = ∅ := by decide +kernel
  unfold Orem; rw [h, Finset.sum_empty]

/-! ## The device's own block stored -/

theorem wp_load_any (c : Dev nD) (s : Fin 16) (f : (cc0_scratch0 : Ref sig .tc).ty.Contents (Elt F))
    (off : Fin 3 → ℕ) (hi : ∀ a, off a + S1x128x1024.size a ≤ S16x128x1024.size a) (hoff : off = ![s.val, 0, 0])
    {hl : (cM : Memref sig .tc .vmem S16x128x1024 .bf16).view.LoadsAt (slotRect off hi).toLoadRect}
    {α : Type} {Q : α → sProp 𝕄} {p : Prog (TpuEff nD τ sig (Elt F) Λ₀ .tc) α} :
    slotPts c s fullShare f
      ⊢ iprop((slotPts c s fullShare f -∗ wp frame (wpE (defs₀ (F := F)) 𝒱₀ (c : Thread nD τ) none) Set.univ p Q)
          -∗ wp frame (wpE (defs₀ (F := F)) 𝒱₀ (c : Thread nD τ) none) Set.univ (.op (.load cM (slotRect off hi).toLoadRect hl) fun _ => p) Q) := by
  subst hoff
  exact wp_load_rect (defs := defs₀ (F := F)) (Γ := .empty) 𝒱₀ (c : Thread nD τ) none Set.univ (m := cM) (r := slotRect ![s.val, 0, 0] (slot_inb s)) (hl := hl) (k := fun _ => p) (Q := Q)
    (S := slotSet s) (q := fullShare) (f := f) (subset_of_eq (slot_set s).symm)

theorem wp_store_slot (c : Dev nD) (s : Fin 16) (f : (cc0_scratch0 : Ref sig .tc).ty.Contents (Elt F))
    (off : Fin 3 → ℕ) (hi : ∀ a, off a + S1x128x1024.size a ≤ S16x128x1024.size a) (hoff : off = ![s.val, 0, 0])
    (w : FVec F S1x128x1024 .bf16) (hw : w = blk m ρ s)
    {hx : ((cM : Memref sig .tc .vmem S16x128x1024 .bf16).access (slotRect off hi)).Stores Finset.univ}
    {hm : (Finset.univ : Finset (slotRect off hi).shape.Idx) = Finset.univ ∨ ∀ a, (slotRect off hi).stride a = 1}
    {α : Type} {Q : α → sProp 𝕄} {k : PUnit → Prog (TpuEff nD τ sig (Elt F) Λ₀ .tc) α} :
    slotPts c s fullShare f
      ⊢ iprop((slotPts c s fullShare (filled m ρ) -∗ wp frame (wpE (defs₀ (F := F)) 𝒱₀ (c : Thread nD τ) none) Set.univ (k ⟨⟩) Q)
          -∗ wp frame (wpE (defs₀ (F := F)) 𝒱₀ (c : Thread nD τ) none) Set.univ (.op (.store cM (slotRect off hi) w Finset.univ hx hm) k) Q) := by
  subst hoff hw
  have h := wp_store (defs := defs₀ (F := F)) (Γ := .empty) 𝒱₀ (c : Thread nD τ) none Set.univ (m := cM) (r := slotRect ![s.val, 0, 0] (slot_inb s)) (w := blk m ρ s) (Mk := Finset.univ) (hx := hx) (hm := hm) (k := k) (Q := Q)
    (S := slotSet s) (f := f) (subset_of_eq (slot_set s).symm)
  have hw : (slotPts c s fullShare ((cM.access (slotRect ![s.val, 0, 0] (slot_inb s))).write (Elt F) f (blk m ρ s) Finset.univ) : sProp 𝕄)
      = slotPts c s fullShare (filled m ρ) := by
    refine slotPts_congr c s fullShare fun i hi => ?_
    have hr : (cM.access (slotRect ![s.val, 0, 0] (slot_inb s))).read (Elt F) (filled m ρ) = blk m ρ s := read_filled m ρ s
    rw [← hr, View.write_read_eq_piecewise]
    exact Finset.piecewise_eq_of_mem _ _ _ (subset_of_eq (slot_set s) ((mem_slot s i).mpr hi))
  rw [← hw]
  exact h

/-! ## The handshake at the entry -/

theorem mem_bar (d : Dev nD) (b : Bool) : b ∈ (Rd (F := F) m ρ).duties (barCell d) 0 := by rw [duties_bar]; exact Finset.mem_univ _

/-- One signal to `d`'s barrier cell, with what it hands over. -/
theorem wp_signal_bar (c d n : Dev nD) (hn : n = d) (b : Bool) (s : Sem sig) (hs : s = barS) (a : ℕ) (ha : a = 1)
    (O O' : CellTallies nD τ sig Unit) (hO : O' = O + tallyAt (barCell d) () 1) (W : Waits sig Unit)
    {α : Type} {Q : α → sProp 𝕄} {k : PUnit → Prog (TpuEff nD τ sig (Elt F) Λ₀ .tc) α} :
    iprop(records m ρ K ∗ owes (c : Thread nD τ) O' W ∗ dutyTok ER (barCell d) 0 b ∗ pay m ρ d none b)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) s a) k) Q) := by
  subst hn hs ha
  have key := Rounds.wp_signal (defs := defs₀ (F := F)) (Γ := .empty) (k := k) (Q := Q) 𝒱₀ ER (Rd m ρ) (c : Thread nD τ) none (dst := (n : Thread nD τ)) (sem := barS) (κ := K (n, none))
    (r := 0) (d := b) (mem_bar m ρ n b) (amount_bar m ρ n b) () O hO (W := W) (Es := Set.univ)
  have hp : pay m ρ n none b ⊢ (Rd m ρ).payload ((n : Thread nD τ), .reg barS) 0 b := Entails.of_eq (payload_eq m ρ n none b).symm
  iintro ⟨#HR, HO, Ht, Hp⟩
  iapply key
  isplitr; · iapply (inv_at m ρ K (n, none)); iexact HR
  isplitl [HO]; · iexact HO
  isplitl [Ht]; · iexact Ht
  isplitl [Hp]; · iapply hp; iexact Hp
  iapply (reached_at m ρ K (n, none)); iexact HR

/-- The wait for both neighbours: every slot that the device's own transfers write. -/
theorem wp_wait_bar (c : Dev nD) (s : Sem sig) (hs : s = barS) (a : ℕ) (ha : a = 2) (W : Waits sig Unit)
    {α : Type} {Q : α → sProp 𝕄} {k : PUnit → Prog (TpuEff nD τ sig (Elt F) Λ₀ .tc) α} :
    iprop(records m ρ K ∗ levAts L lv ∗ atPos ER (barCell c) 0 ∅ 0 ∗ cred (tallyAt (barCell c) () 2) ∗ owes (c : Thread nD τ) (Orem c 0) W)
      ⊢ iprop((((bigSep Finset.univ fun t : T => Land t c) ∗ semVal (barCell c) 0 ∗ ∃ W', owes (c : Thread nD τ) (Orem c 0) W')
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait s a) k) Q) := by
  subst hs ha
  iintro ⟨#HR, #HL, Hat, Hc, HO⟩ Hk
  iapply (Rounds.wp_wait_rest_token 𝒱₀ ER (Rd m ρ) (c : Thread nD τ) none (κ := K (c, none)) (sm := csem none)
      (wpE_semWait_eq 𝒱₀ (c : Thread nD τ) none Set.univ) (Set.mem_univ _) () (O := Orem c 0) (W := W) (R := 0) (m := 0) (T := ∅)
      (by rw [expect_bar])) $$ [Hc HO Hat]
  · isplitr; · iapply (inv_at m ρ K (c, none)); iexact HR
    isplitl [Hc]; · iexact Hc
    isplitl [HO]; · iexact HO
    isplitr; · iapply (mayWait_bar c); iexact HL
    iexact Hat
  iintro ⟨HO, Hat, -, Hpay⟩
  ihave Hl := (Entails.of_eq (rest_bar m ρ c)) $$ Hpay
  imod (Rounds.cell_close ER (Rd m ρ) (Set.mem_univ (K (c, none))) (fun h => h) (R := 0 + 1) (duties_later m ρ (barCell c))) $$ [Hat] with Hz
  · isplitr; · iapply (inv_at m ρ K (c, none)); iexact HR
    iexact Hat
  iapply Hk
  isplitl [Hl]; · iexact Hl
  isplitl [Hz]; · iexact Hz
  iexists (insert (csem none, ()) W); iexact HO

/-! ## The device's own slot, one half for each direction -/

theorem own_halves (c : Dev nD) : (slotPts c c fullShare (filled m ρ) : sProp 𝕄)
    ⊣⊢ iprop(slotPts c (src (.inl 0) c) (half (.inl 0)) (filled m ρ) ∗ slotPts c (src (.inr 0) c) (half (.inr 0)) (filled m ρ)) := by
  have h1 : src (.inl 0) c = c := sR_zero c
  have h2 : src (.inr 0) c = c := sL_zero c
  rw [h1, h2]
  exact slotPts_halves c c (filled m ρ)

omit [FloatOps F] in
theorem off2_zero (c : Dev nD) : k0_off2 c (BitVec.ofNat 32 0) = ![(src (.inl 0) c).val, 0, 0] := k0_off2_eq c 0
omit [FloatOps F] in
theorem off3_zero (c : Dev nD) : k0_off3 c (BitVec.ofNat 32 0) = ![(src (.inr 0) c).val, 0, 0] := k0_off3_eq c 0
omit [FloatOps F] in
theorem off2_slot (c : Dev nD) (r : Fin 7) : k0_off2 c (BitVec.ofNat 32 r.val) = ![(sR c r.val).val, 0, 0] := k0_off2_eq c r
omit [FloatOps F] in
theorem off3_slot (c : Dev nD) (r : Fin 8) : k0_off3 c (BitVec.ofNat 32 r.val) = ![(sL c r.val).val, 0, 0] := k0_off3_eq c r
omit [FloatOps F] in
theorem off4_slot (c : Dev nD) (r : Fin 7) : k0_off4 c (BitVec.ofNat 32 (1 + r.val)) = ![(sR c (r.val + 1)).val, 0, 0] := by
  rw [k0_off4_eq]
  have : (c.val + 15 - r.val) % 16 = (sR c (r.val + 1)).val := by show _ = (c.val + 16 - (r.val + 1)) % 16; congr 1; omega
  rw [this]
omit [FloatOps F] in
theorem off5_slot (c : Dev nD) (r : Fin 8) : k0_off5 c (BitVec.ofNat 32 (1 + r.val)) = ![(sL c (r.val + 1)).val, 0, 0] := k0_off5_eq c r

/-! ## The last step -/

/-- One transfer, to the left; the two blocks held added to the result meanwhile, then the block that arrives. -/
theorem wp_last (c n : Dev nD) (hn : n = lf c) (s1 s2 : DmaSem sig) (h1 : s1 = dsem (.inr 7, false)) (h2 : s2 = dsem (.inr 7, true))
    (offL offA offB offC : Fin 3 → ℕ) (hiL : ∀ a, offL a + S1x128x1024.size a ≤ S16x128x1024.size a)
    (hiA : ∀ a, offA a + S1x128x1024.size a ≤ S16x128x1024.size a) (hiB : ∀ a, offB a + S1x128x1024.size a ≤ S16x128x1024.size a)
    (hiC : ∀ a, offC a + S1x128x1024.size a ≤ S16x128x1024.size a)
    (hL : offL = ![(sL c 7).val, 0, 0]) (hA : offA = ![(sR c 7).val, 0, 0]) (hB : offB = ![(sL c 7).val, 0, 0]) (hC : offC = ![(sL c 8).val, 0, 0])
    (pay : Vec F S1x128x1024 .bf16 → Vec F S1x128x1024 .bf16 → Vec F S2048x1024 .f32 → FVec F S2048x1024 .f32)
    (pay' : Vec F S2048x1024 .f32 → Vec F S1x128x1024 .bf16 → FVec F S2048x1024 .f32)
    (o o' o'' : FVec F S2048x1024 .f32) (hpay : pay (blk m ρ (sR c 7)) (blk m ρ (sL c 7)) o = o') (hpay' : pay' o' (blk m ρ (sL c 8)) = o'')
    {e2 : (slotAt offL hiL : Memref sig (Dev.tc n : Thread nD τ).2.kind .vmem S128x1024 .bf16).view.ref.isScScratch = false}
    {q1 q2 q3 q4 q5 q6 : (slotAt offL hiL).view.WordExact}
    {t2 : DmaTarget.Typed .vmem (.dma s2) (.remote (Dev.tc n : Thread nD τ) (slotAt offL hiL) (.dma s1) e2)}
    {l1 : (cM : Memref sig .tc .vmem S16x128x1024 .bf16).view.LoadsAt (slotRect offA hiA).toLoadRect}
    {l2 : (cM : Memref sig .tc .vmem S16x128x1024 .bf16).view.LoadsAt (slotRect offB hiB).toLoadRect}
    {l5 : (cM : Memref sig .tc .vmem S16x128x1024 .bf16).view.LoadsAt (slotRect offC hiC).toLoadRect}
    {l3 l4 l6 l7 : oM.view.LoadsAt oRect.toLoadRect}
    {hx hx' : (oM.access oRect).Stores Finset.univ} {hm hm' : (Finset.univ : Finset oRect.shape.Idx) = Finset.univ ∨ ∀ a, oRect.stride a = 1}
    {α : Type} {Q : α → sProp 𝕄} {k' : PUnit → Prog (TpuEff nD τ sig (Elt F) Λ₀ .tc) α} :
    iprop(records m ρ K ∗ levAts L lv
        ∗ (slotPts c (sR c 7) fullShare (filled m ρ) ∗ slotPts c (sL c 7) fullShare (filled m ρ))
        ∗ (Land (.inr 7) c ∗ kit c (.inr 7))
        ∗ (∃ W, owes (c : Thread nD τ) (Orem c 7) W) ∗ outPts c o)
      ⊢ iprop((((slotPts c (sR c 7) fullShare (filled m ρ) ∗ slotPts c (sL c 7) fullShare (filled m ρ))
              ∗ slotPts c (sL c 8) fullShare (filled m ρ) ∗ closed c (.inr 7)
              ∗ (∃ W, owes (c : Thread nD τ) 0 W) ∗ outPts c o'')
            -∗ wp frame (wpE (defs₀ (F := F)) 𝒱₀ (c : Thread nD τ) none) Set.univ (k' ⟨⟩) Q)
          -∗ wp frame (wpE (defs₀ (F := F)) 𝒱₀ (c : Thread nD τ) none) Set.univ
              (.op (.enqueueDma (slotAt offL hiL) (.remote (Dev.tc n : Thread nD τ) (slotAt offL hiL) (.dma s1) e2) (.dma s2) q1 q2 t2) fun _ =>
               .op (.load cM (slotRect offA hiA).toLoadRect l1) fun A => .op (.load cM (slotRect offB hiB).toLoadRect l2) fun B =>
               .op (.load oM oRect.toLoadRect l3) fun x => .op (.load oM oRect.toLoadRect l4) fun _ =>
               .op (.store oM oRect (pay A B x) Finset.univ hx hm) fun _ =>
               .op (.waitDma2 s1 (slotAt offL hiL) (slotAt offL hiL) q3 q4) fun _ => .op (.waitDma2 s2 (slotAt offL hiL) (slotAt offL hiL) q5 q6) fun _ =>
               .op (.load oM oRect.toLoadRect l6) fun x => .op (.load cM (slotRect offC hiC).toLoadRect l5) fun C =>
               .op (.load oM oRect.toLoadRect l7) fun _ =>
               .op (.store oM oRect (pay' x C) Finset.univ hx' hm') k') Q) := by
  subst hpay hpay'
  unfold kit ticket
  iintro ⟨#HR, #HL, ⟨HsR, HsL⟩, ⟨HdL, ⟨HaL1, HaL2, HtL1, HtL2⟩, HcL⟩, ⟨%W, HO⟩, Hout⟩ Hk
  ihave HsL' := (slotPts_halves (F := F) c (sL c 7) (filled m ρ)).1 $$ HsL
  icases HsL' with ⟨HsL1, HsL2⟩
  iapply (wp_send m ρ K (.inr 7) c n hn s1 s2 h1 h2 offL hiL hL 0 (Orem c 7) (Orem_last c) W) $$ [HsL2 HdL HO HtL1 HtL2]
  · isplitr; · iexact HR
    isplitl [HsL2]; · iexact HsL2
    isplitl [HdL]; · iexact HdL
    isplitl [HO]; · iexact HO
    isplitl [HtL1] <;> iassumption
  iintro ⟨HcL', HO⟩
  iapply (wp_load_slot m ρ c (sR c 7) fullShare offA hiA hA) $$ HsR; iintro HsR
  iapply (wp_load_slot m ρ c (sL c 7) fullShare.left offB hiB hB) $$ HsL1; iintro HsL1
  iapply (wp_load_out c o) $$ Hout; iintro Hout
  iapply (wp_load_out c o) $$ Hout; iintro Hout
  iapply (wp_store_out c o) $$ Hout; iintro Hout
  iapply (wp_waits m ρ K (.inr 7) c 7 rfl s1 s2 h1 h2 offL offL hiL hiL) $$ [HaL1 HaL2 HcL' HcL HO]
  · isplitr; · iexact HR
    isplitr; · iexact HL
    isplitr [HO]
    · unfold waiting
      isplitl [HaL1]; · iexact HaL1
      isplitl [HaL2]; · iexact HaL2
      isplitl [HcL'] <;> iassumption
    rw [show Orem c (7 + 1) = 0 from Orem_end c]
    iexists W; iexact HO
  rw [show Orem c (7 + 1) = 0 from Orem_end c]
  iintro ⟨HsL2, HnL, HzL, HO⟩
  ihave HnL := (show (slotPts (F := F) c (land (.inr 7) c) fullShare (filled m ρ) : sProp 𝕄) ⊢ slotPts c (sL c 8) fullShare (filled m ρ) from BI.Entails.refl _) $$ HnL
  iapply (wp_load_out c _) $$ Hout; iintro Hout
  iapply (wp_load_slot m ρ c (sL c 8) fullShare offC hiC hC) $$ HnL; iintro HnL
  iapply (wp_load_out c _) $$ Hout; iintro Hout
  iapply (wp_store_out c _) $$ Hout; iintro Hout
  iapply Hk
  isplitl [HsR HsL1 HsL2]
  · isplitl [HsR]; · iexact HsR
    iapply (slotPts_halves (F := F) c (sL c 7) (filled m ρ)).2
    isplitl [HsL1]; · iexact HsL1
    iexact HsL2
  isplitl [HnL]; · iexact HnL
  isplitl [HzL]; · iexact HzL
  isplitl [HO] <;> iassumption

/-! ## The end -/

/-- All slots filled: the scratch. -/
theorem filled_join (c : Dev nD) :
    iprop(slotPts c c fullShare (filled m ρ)
      ∗ (slotPts c (sR c 1) fullShare (filled m ρ) ∗ slotPts c (sL c 1) fullShare (filled m ρ))
      ∗ (slotPts c (sR c 2) fullShare (filled m ρ) ∗ slotPts c (sL c 2) fullShare (filled m ρ))
      ∗ (slotPts c (sR c 3) fullShare (filled m ρ) ∗ slotPts c (sL c 3) fullShare (filled m ρ))
      ∗ (slotPts c (sR c 4) fullShare (filled m ρ) ∗ slotPts c (sL c 4) fullShare (filled m ρ))
      ∗ (slotPts c (sR c 5) fullShare (filled m ρ) ∗ slotPts c (sL c 5) fullShare (filled m ρ))
      ∗ (slotPts c (sR c 6) fullShare (filled m ρ) ∗ slotPts c (sL c 6) fullShare (filled m ρ))
      ∗ (slotPts c (sR c 7) fullShare (filled m ρ) ∗ slotPts c (sL c 7) fullShare (filled m ρ))
      ∗ slotPts c (sL c 8) fullShare (filled m ρ))
    ⊢ (((c : Thread nD τ).loc cc0_scratch0) ↦{fullShare} filled m ρ : sProp 𝕄) := by
  rw [scratch_slots, bigSep_opt, bigSep_steps]
  iintro ⟨H0, ⟨R1, L1⟩, ⟨R2, L2⟩, ⟨R3, L3⟩, ⟨R4, L4⟩, ⟨R5, L5⟩, ⟨R6, L6⟩, ⟨R7, L7⟩, L8⟩
  isplitl [H0]; · iexact H0
  isplitl [R1 R2 R3 R4 R5 R6 R7]
  · isplitl [R1]; · iexact R1
    isplitl [R2]; · iexact R2
    isplitl [R3]; · iexact R3
    isplitl [R4]; · iexact R4
    isplitl [R5]; · iexact R5
    isplitl [R6]; · iexact R6
    iexact R7
  isplitl [L1]; · iexact L1
  isplitl [L2]; · iexact L2
  isplitl [L3]; · iexact L3
  isplitl [L4]; · iexact L4
  isplitl [L5]; · iexact L5
  isplitl [L6]; · iexact L6
  isplitl [L7]; · iexact L7
  iexact L8

omit [FloatOps F] in
/-- All transfers' cells closed. -/
theorem closed_join (c : Dev nD) :
    iprop((closed (F := F) c (.inl 0) ∗ closed c (.inr 0)) ∗ (closed c (.inl 1) ∗ closed c (.inr 1)) ∗ (closed c (.inl 2) ∗ closed c (.inr 2))
      ∗ (closed c (.inl 3) ∗ closed c (.inr 3)) ∗ (closed c (.inl 4) ∗ closed c (.inr 4)) ∗ (closed c (.inl 5) ∗ closed c (.inr 5))
      ∗ (closed c (.inl 6) ∗ closed c (.inr 6)) ∗ closed c (.inr 7))
    ⊢ (bigSep Finset.univ fun t : T => closed c t : sProp 𝕄) := by
  rw [bigSep_steps]
  iintro ⟨⟨R0, L0⟩, ⟨R1, L1⟩, ⟨R2, L2⟩, ⟨R3, L3⟩, ⟨R4, L4⟩, ⟨R5, L5⟩, ⟨R6, L6⟩, L7⟩
  isplitl [R0 R1 R2 R3 R4 R5 R6]
  · isplitl [R0]; · iexact R0
    isplitl [R1]; · iexact R1
    isplitl [R2]; · iexact R2
    isplitl [R3]; · iexact R3
    isplitl [R4]; · iexact R4
    isplitl [R5]; · iexact R5
    iexact R6
  isplitl [L0]; · iexact L0
  isplitl [L1]; · iexact L1
  isplitl [L2]; · iexact L2
  isplitl [L3]; · iexact L3
  isplitl [L4]; · iexact L4
  isplitl [L5]; · iexact L5
  isplitl [L6]; · iexact L6
  iexact L7

end Cert.Exchange

end
-- ==== Proof.BodyRun.lean ====
/-
# The body of the kernel on one device, run
-/
module

public import proofs.«01_k».proof.Proof.Body

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × J → ℕ)

/-- What device `c` starts with at its cells: the records, its positions, its duty tokens, -/
def ghost (c : Dev nD) : sProp 𝕄 :=
  iprop(records m ρ K ∗ atPos ER (barCell c) 0 ∅ 0 ∗ dutyTok ER (barCell (lf c)) 0 true ∗ dutyTok ER (barCell (rt c)) 0 false
    ∗ bigSep Finset.univ fun t : T => ticket c t)
/-- and the credit it will receive. -/
def credits (c : Dev nD) : sProp 𝕄 :=
  iprop(cred (tallyAt (barCell c) () 2) ∗ bigSep Finset.univ fun t : T => cred (tallyAt (recvCell c t) () N))

/-- The four staging buffers. -/
def stages (c : Dev nD) (o : (cc0_stg3_0 : Ref sig .tc).ty.Contents (Elt F)) : sProp 𝕄 :=
  iprop((((c : Thread nD τ).loc cc0_stg0_0) ↦{fullShare} istg m ρ c) ∗ (((c : Thread nD τ).loc cc0_stg1_0) ↦{fullShare} xstg m ρ c)
    ∗ (((c : Thread nD τ).loc cc0_stg2_0) ↦{fullShare} wstg m ρ c) ∗ outPts c o)

/-- What the body leaves: the scratch filled, every counter of its cells at zero. -/
def Φ₁ (c : Dev nD) : sProp 𝕄 :=
  iprop((((c : Thread nD τ).loc cc0_scratch0) ↦{fullShare} filled m ρ) ∗ (bigSep Finset.univ fun t : T => closed c t) ∗ semVal (barCell c) 0)

set_option maxHeartbeats 8000000 in
set_option maxRecDepth 20000 in
/-- The body, one rule per effect or step in program order. -/
theorem sound_body (c : Dev nD) (f0 : (cc0_scratch0 : Ref sig .tc).ty.Contents (Elt F)) (o0 : (cc0_stg3_0 : Ref sig .tc).ty.Contents (Elt F))
    (W : Waits sig Unit) (Kt : PUnit → sProp 𝕄) :
    iprop(ghost m ρ K c ∗ credits c ∗ levAts L lv ∗ (((c : Thread nD τ).loc cc0_scratch0) ↦{fullShare} f0)
        ∗ owes (c : Thread nD τ) (O₀ c) W ∗ stages m ρ c o0)
      ⊢ iprop(((Φ₁ m ρ c ∗ (∃ W', owes (c : Thread nD τ) 0 W') ∗ stages m ρ c (outAt m ρ c)) -∗ Kt ⟨⟩)
        -∗ wp frame (wpE (defs₀ (F := F)) 𝒱₀ c none) Set.univ
          (cc0__moe_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) cc0_scratch1 cc0_scratch2 cc0_scratch3 cc0_scratch4) Kt) := by
  simp only [cc0__moe_body_eq_skeleton]; unfold cc0__moe_body_skel
  simp only [k0_part21_eq_skeleton]; unfold k0_part21_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton,
    k0_part13_eq_skeleton, k0_part14_eq_skeleton, k0_part15_eq_skeleton, k0_part16_eq_skeleton, k0_part17_eq_skeleton, k0_part18_eq_skeleton,
    k0_part19_eq_skeleton, k0_part20_eq_skeleton]
  unfold k0_part1_skel k0_part2_skel k0_part3_skel k0_part4_skel k0_part5_skel k0_part6_skel k0_part7_skel k0_part8_skel k0_part9_skel k0_part10_skel
    k0_part11_skel k0_part12_skel k0_part13_skel k0_part14_skel k0_part15_skel k0_part16_skel k0_part17_skel k0_part18_skel k0_part19_skel k0_part20_skel
  simp only [semSignalWord, semWaitWord, Prog.lift, Prog.bind_op, Prog.bind_ret, Prog.bind_assoc, Prog.pure_eq_ret, wp_deviceId]
  rw [scratch_slots, bigSep_opt, bigSep_sides]
  unfold ghost credits stages
  iintro ⟨⟨#HR, HatB, HtL, HtR, Htk⟩, ⟨HcB, Hcr⟩, #HL, ⟨Hown, HslR, HslL⟩, HO, HI, HX, HW, Hout⟩ Hk
  -- the handshake: the slots that the neighbours' transfers write go out, those that its own write come in
  iapply (wp_signal_bar m ρ K c (lf c) _ (Fin.ext (k0_dev1_eq c)) true _ rfl _ (by decide) (O₁ c) (O₀ c) rfl W) $$ [HO HtL HslR]
  · isplitr; · iexact HR
    isplitl [HO]; · iexact HO
    isplitl [HtL]; · iexact HtL
    iapply (pay_right m ρ c f0); iexact HslR
  iintro HO
  iapply (wp_signal_bar m ρ K c (rt c) _ (Fin.ext (k0_dev2_eq c)) false _ rfl _ (by decide) (Orem c 0) (O₁ c) rfl W) $$ [HO HtR HslL]
  · isplitr; · iexact HR
    isplitl [HO]; · iexact HO
    isplitl [HtR]; · iexact HtR
    iapply (pay_left m ρ c f0); iexact HslL
  iintro HO
  iapply (wp_wait_bar m ρ K c _ rfl _ (by decide) W) $$ [HO HcB HatB]
  · isplitr; · iexact HR
    isplitr; · iexact HL
    isplitl [HatB]; · iexact HatB
    isplitl [HcB]; · iexact HcB
    iexact HO
  iintro ⟨Hl, HzB, %W1, HO⟩
  ihave Hkits := (Entails.of_eq (bigSep_sep' Finset.univ (fun t : T => ticket (F := F) c t) (fun t : T => cred (tallyAt (recvCell c t) () N))).symm) $$ [Htk Hcr]
  · isplitl [Htk]; · iexact Htk
    iexact Hcr
  ihave Hall := (Entails.of_eq (bigSep_sep' Finset.univ (fun t : T => Land (F := F) t c) (fun t : T => kit (F := F) c t)).symm) $$ [Hl Hkits]
  · isplitl [Hl]; · iexact Hl
    unfold kit; iexact Hkits
  ihave Hall' := (Entails.of_eq (bigSep_steps (F := F) _)) $$ Hall
  icases Hall' with ⟨⟨R0, R1, R2, R3, R4, R5, R6⟩, L0, L1, L2, L3, L4, L5, L6, L7⟩
  -- the loads of the three blocks
  iapply (wp_load 𝒱₀ (c : Thread nD τ) none Set.univ (m := iM) (Finset.subset_univ _)) $$ HI; iintro HI
  iapply (wp_load 𝒱₀ (c : Thread nD τ) none Set.univ (m := xM) (Finset.subset_univ _)) $$ HX; iintro HX
  iapply (wp_load 𝒱₀ (c : Thread nD τ) none Set.univ (m := wM) (Finset.subset_univ _)) $$ HW; iintro HW
  iapply (wp_load 𝒱₀ (c : Thread nD τ) none Set.univ (m := wM) (Finset.subset_univ _)) $$ HW; iintro HW
  iapply (wp_load 𝒱₀ (c : Thread nD τ) none Set.univ (m := wM) (Finset.subset_univ _)) $$ HW; iintro HW
  iapply (wp_load 𝒱₀ (c : Thread nD τ) none Set.univ (m := wM) (Finset.subset_univ _)) $$ HW; iintro HW
  -- the device's own block goes into its slot, and from there to both neighbours
  ihave Hown' := (show (slotPts (F := F) c (slotOf c none) fullShare f0 : sProp 𝕄) ⊢ slotPts c c fullShare f0 from BI.Entails.refl _) $$ Hown
  iapply (wp_load_any c c f0 _ _ (k0_off1_eq c)) $$ Hown'; iintro Hown
  iapply (wp_store_slot m ρ c c f0 _ _ (k0_off1_eq c) _ rfl) $$ Hown; iintro Hown
  ihave Hh := (own_halves m ρ c).1 $$ Hown
  icases Hh with ⟨HhR, HhL⟩
  unfold kit ticket
  icases R0 with ⟨HdR, ⟨HaR1, HaR2, HtR1, HtR2⟩, HcR⟩
  icases L0 with ⟨HdL, ⟨HaL1, HaL2, HtL1, HtL2⟩, HcL⟩
  iapply (wp_send m ρ K (.inl 0) c _ (Fin.ext (k0_dev3_eq c)) _ _ rfl rfl _ _ (off2_zero c)
    (Orem c 1 + tallyAt (recvCell (lf c) (.inr 0)) () N) (Orem c 0) (Orem_step c 0) W1) $$ [HhR HdR HO HtR1 HtR2]
  · isplitr; · iexact HR
    isplitl [HhR]; · iexact HhR
    isplitl [HdR]; · iexact HdR
    isplitl [HO]; · iexact HO
    isplitl [HtR1]; · iexact HtR1
    iexact HtR2
  iintro ⟨HcR', HO⟩
  iapply (wp_send m ρ K (.inr 0) c _ (Fin.ext (k0_dev4_eq c)) _ _ rfl rfl _ _ (off3_zero c)
    (Orem c 1) _ rfl W1) $$ [HhL HdL HO HtL1 HtL2]
  · isplitr; · iexact HR
    isplitl [HhL]; · iexact HhL
    isplitl [HdL]; · iexact HdL
    isplitl [HO]; · iexact HO
    isplitl [HtL1]; · iexact HtL1
    iexact HtL2
  iintro ⟨HcL', HO⟩
  iapply (wp_load_out c o0) $$ Hout; iintro Hout
  iapply (wp_store_out c o0 (acc m ρ c 0)) $$ Hout; iintro Hout
  iapply (wp_waits m ρ K (.inl 0) c 0 rfl _ _ rfl rfl) $$ [HaR1 HaR2 HcR' HcR HO]
  · isplitr; · iexact HR
    isplitr; · iexact HL
    isplitr [HO]
    · unfold waiting
      isplitl [HaR1]; · iexact HaR1
      isplitl [HaR2]; · iexact HaR2
      isplitl [HcR'] <;> iassumption
    iexists W1; iexact HO
  iintro ⟨HhR, HnR, ZR0, HO⟩
  iapply (wp_waits m ρ K (.inr 0) c 0 rfl _ _ rfl rfl) $$ [HaL1 HaL2 HcL' HcL HO]
  · isplitr; · iexact HR
    isplitr; · iexact HL
    isplitr [HO]
    · unfold waiting
      isplitl [HaL1]; · iexact HaL1
      isplitl [HaL2]; · iexact HaL2
      isplitl [HcL'] <;> iassumption
    iexact HO
  iintro ⟨HhL, HnL, ZL0, HO⟩
  ihave Hown := (own_halves m ρ c).2 $$ [HhR HhL]
  · isplitl [HhR]; · iexact HhR
    iexact HhL
  ihave N0 := (show iprop(slotPts (F := F) c (land (.inl 0) c) fullShare (filled m ρ) ∗ slotPts c (land (.inr 0) c) fullShare (filled m ρ))
    ⊢ iprop(slotPts c (sR c 1) fullShare (filled m ρ) ∗ slotPts c (sL c 1) fullShare (filled m ρ)) from BI.Entails.refl _) $$ [HnR HnL]
  · isplitl [HnR]; · iexact HnR
    iexact HnL
  -- the steps with a transfer each way
  iapply (wp_step m ρ K c 1 _ _ (Fin.ext (k0_dev5_eq c)) (Fin.ext (k0_dev6_eq c)) _ _ _ _ rfl rfl rfl rfl _ _ _ _ _ _ _ _
    (off2_slot c 1) (off3_slot c 1) (off4_slot c 0) (off5_slot c 0) _ (acc m ρ c 0) (acc m ρ c 1) (by rfl)) $$ [N0 R1 L1 HO Hout]
  · isplitr; · iexact HR
    isplitr; · iexact HL
    isplitl [N0]; · iexact N0
    isplitl [R1]; · iexact R1
    isplitl [L1]; · iexact L1
    isplitl [HO]; · iexact HO
    iexact Hout
  iintro ⟨S1, N1, Z1, HO, Hout⟩
  iapply (wp_step m ρ K c 2 _ _ (Fin.ext (k0_dev7_eq c)) (Fin.ext (k0_dev8_eq c)) _ _ _ _ rfl rfl rfl rfl _ _ _ _ _ _ _ _
    (off2_slot c 2) (off3_slot c 2) (off4_slot c 1) (off5_slot c 1) _ (acc m ρ c 1) (acc m ρ c 2) (by rfl)) $$ [N1 R2 L2 HO Hout]
  · isplitr; · iexact HR
    isplitr; · iexact HL
    isplitl [N1]; · iexact N1
    isplitl [R2]; · iexact R2
    isplitl [L2]; · iexact L2
    isplitl [HO]; · iexact HO
    iexact Hout
  iintro ⟨S2, N2, Z2, HO, Hout⟩
  iapply (wp_step m ρ K c 3 _ _ (Fin.ext (k0_dev9_eq c)) (Fin.ext (k0_dev10_eq c)) _ _ _ _ rfl rfl rfl rfl _ _ _ _ _ _ _ _
    (off2_slot c 3) (off3_slot c 3) (off4_slot c 2) (off5_slot c 2) _ (acc m ρ c 2) (acc m ρ c 3) (by rfl)) $$ [N2 R3 L3 HO Hout]
  · isplitr; · iexact HR
    isplitr; · iexact HL
    isplitl [N2]; · iexact N2
    isplitl [R3]; · iexact R3
    isplitl [L3]; · iexact L3
    isplitl [HO]; · iexact HO
    iexact Hout
  iintro ⟨S3, N3, Z3, HO, Hout⟩
  iapply (wp_step m ρ K c 4 _ _ (Fin.ext (k0_dev11_eq c)) (Fin.ext (k0_dev12_eq c)) _ _ _ _ rfl rfl rfl rfl _ _ _ _ _ _ _ _
    (off2_slot c 4) (off3_slot c 4) (off4_slot c 3) (off5_slot c 3) _ (acc m ρ c 3) (acc m ρ c 4) (by rfl)) $$ [N3 R4 L4 HO Hout]
  · isplitr; · iexact HR
    isplitr; · iexact HL
    isplitl [N3]; · iexact N3
    isplitl [R4]; · iexact R4
    isplitl [L4]; · iexact L4
    isplitl [HO]; · iexact HO
    iexact Hout
  iintro ⟨S4, N4, Z4, HO, Hout⟩
  iapply (wp_step m ρ K c 5 _ _ (Fin.ext (k0_dev13_eq c)) (Fin.ext (k0_dev14_eq c)) _ _ _ _ rfl rfl rfl rfl _ _ _ _ _ _ _ _
    (off2_slot c 5) (off3_slot c 5) (off4_slot c 4) (off5_slot c 4) _ (acc m ρ c 4) (acc m ρ c 5) (by rfl)) $$ [N4 R5 L5 HO Hout]
  · isplitr; · iexact HR
    isplitr; · iexact HL
    isplitl [N4]; · iexact N4
    isplitl [R5]; · iexact R5
    isplitl [L5]; · iexact L5
    isplitl [HO]; · iexact HO
    iexact Hout
  iintro ⟨S5, N5, Z5, HO, Hout⟩
  iapply (wp_step m ρ K c 6 _ _ (Fin.ext (k0_dev15_eq c)) (Fin.ext (k0_dev16_eq c)) _ _ _ _ rfl rfl rfl rfl _ _ _ _ _ _ _ _
    (off2_slot c 6) (off3_slot c 6) (off4_slot c 5) (off5_slot c 5) _ (acc m ρ c 5) (acc m ρ c 6) (by rfl)) $$ [N5 R6 L6 HO Hout]
  · isplitr; · iexact HR
    isplitr; · iexact HL
    isplitl [N5]; · iexact N5
    isplitl [R6]; · iexact R6
    isplitl [L6]; · iexact L6
    isplitl [HO]; · iexact HO
    iexact Hout
  iintro ⟨S6, N6, Z6, HO, Hout⟩
  -- the last
  iapply (wp_last m ρ K c _ (Fin.ext (k0_dev17_eq c)) _ _ rfl rfl _ _ _ _ _ _ _ _
    (off3_slot c 7) (off4_slot c 6) (off5_slot c 6) (off5_slot c 7) _ _ (acc m ρ c 6) (acc m ρ c 7) (outAt m ρ c) (by rfl) (by rfl)) $$ [N6 L7 HO Hout]
  · isplitr; · iexact HR
    isplitr; · iexact HL
    isplitl [N6]; · iexact N6
    isplitl [L7]; · iexact L7
    isplitl [HO]; · iexact HO
    iexact Hout
  iintro ⟨S7, S8, Z7, HO, Hout⟩
  rw [wp_ret]; imodintro
  iapply Hk
  unfold Φ₁
  isplitl [Hown S1 S2 S3 S4 S5 S6 S7 S8 ZR0 ZL0 Z1 Z2 Z3 Z4 Z5 Z6 Z7 HzB]
  · isplitl [Hown S1 S2 S3 S4 S5 S6 S7 S8]
    · iapply (filled_join m ρ c)
      isplitl [Hown]; · iexact Hown
      isplitl [S1]; · iexact S1
      isplitl [S2]; · iexact S2
      isplitl [S3]; · iexact S3
      isplitl [S4]; · iexact S4
      isplitl [S5]; · iexact S5
      isplitl [S6]; · iexact S6
      isplitl [S7]; · iexact S7
      iexact S8
    isplitr [HzB]
    · iapply (closed_join (F := F) c)
      isplitl [ZR0 ZL0]
      · isplitl [ZR0]; · iexact ZR0
        iexact ZL0
      isplitl [Z1]; · iexact Z1
      isplitl [Z2]; · iexact Z2
      isplitl [Z3]; · iexact Z3
      isplitl [Z4]; · iexact Z4
      isplitl [Z5]; · iexact Z5
      isplitl [Z6]; · iexact Z6
      iexact Z7
    iexact HzB
  isplitl [HO]; · iexact HO
  isplitl [HI]; · iexact HI
  isplitl [HX]; · iexact HX
  isplitl [HW]; · iexact HW
  iexact Hout

end Cert.Exchange

end
-- ==== Proof.Run.lean ====
/-
# The launch: the cells funded, their tokens dealt around the ring, the run of all devices
-/
module

public import proofs.«01_k».proof.Proof.BodyRun
public import Idealize.ShloMosaic.Lib.Pipeline.CollectiveSegs

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The proof data of the one region -/

/-- What device `c`'s body starts from. -/
def start (c : Dev nD) : sProp 𝕄 := iprop((∃ K, ghost m ρ K c) ∗ credits c ∗ levAts L lv)
def Φ₀ (c : Dev nD) : sProp 𝕄 := iprop(start m ρ c ∗ ∃ f, ((c : Thread nD τ).loc cc0_scratch0) ↦{fullShare} f)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => istg m ρ c
    | ⟨1, _⟩ => xstg m ρ c
    | ⟨2, _⟩ => wstg m ρ c
    | ⟨3, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

omit [FloatOps F] in
theorem bigSep_W (Φ : Fin cfg0.W → sProp 𝕄) :
    bigSep Finset.univ Φ = iprop(Φ (0 : Fin 4) ∗ Φ (1 : Fin 4) ∗ Φ (2 : Fin 4) ∗ Φ (3 : Fin 4)) := bigSep_W0 Φ

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

set_option maxRecDepth 4000 in
def bodyPre (c : Dev nD) : sProp 𝕄 :=
  iprop(Φ₀ m ρ c ∗ (dats m ρ 0 c).owesAt () t0_0.castSucc
    ∗ (∃ d, stg c cc0_stg0_0 ((dats m ρ 0 c).before (0 : Fin 4) t0_0 d))
    ∗ (∃ d, stg c cc0_stg1_0 ((dats m ρ 0 c).before (1 : Fin 4) t0_0 d))
    ∗ (∃ d, stg c cc0_stg2_0 ((dats m ρ 0 c).before (2 : Fin 4) t0_0 d))
    ∗ (∃ d, stg c cc0_stg3_0 ((dats m ρ 0 c).before (3 : Fin 4) t0_0 d)))

def bodyPost (c : Dev nD) : sProp 𝕄 :=
  iprop(Φ₁ m ρ c ∗ (dats m ρ 0 c).owesAt () t0_0.succ
    ∗ stg c cc0_stg0_0 (istg m ρ c) ∗ stg c cc0_stg1_0 (xstg m ρ c) ∗ stg c cc0_stg2_0 (wstg m ρ c) ∗ stg c cc0_stg3_0 (outAt m ρ c))

theorem fetch_w (t : Fin cfg0.N) : (cfg0.win (0 : Fin 4)).fetch t = true ∧ (cfg0.win (1 : Fin 4)).fetch t = true ∧ (cfg0.win (2 : Fin 4)).fetch t = true := by
  rw [fin_N0 t]; exact ⟨rfl, rfl, rfl⟩

set_option maxRecDepth 20000 in
/-- The library's body obligation on device `c`. -/
theorem body_obligation (c : Dev nD) : BodyObligation (dats (F := F) m ρ 0 c) (defs₀ (F := F)) 𝒱₀ () Set.univ := fun t => by
  rw [fin_N0 t]
  rw [bigSep_W, bigSep_W]
  simp only [owns_whole_eq]
  show bodyPre m ρ c ⊢ wp frame (wpE (defs₀ (F := F)) 𝒱₀ c none) Set.univ
    (cc0__moe_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_scratch0) (Memref.isWhole_whole _) cc0_scratch1 cc0_scratch2 cc0_scratch3 cc0_scratch4) (fun _ => bodyPost m ρ c)
  unfold bodyPre Φ₀ start
  iintro ⟨⟨⟨⟨%K, Hg⟩, Hcr, Hlev⟩, ⟨%f0, Hscr⟩⟩, Ho, ⟨%d0, %g0, %hg0, HI⟩, ⟨%d1, %g1, %hg1, HX⟩, ⟨%d2, %g2, %hg2, HW⟩, ⟨%d3, %g3, %hg3, Hout⟩⟩
  have h0 : g0 = istg m ρ c := by rw [hg0]; unfold Dat.before; rw [if_pos (fetch_w t0_0).1]; rfl
  have h1 : g1 = xstg m ρ c := by rw [hg1]; unfold Dat.before; rw [if_pos (fetch_w t0_0).2.1]; rfl
  have h2 : g2 = wstg m ρ c := by rw [hg2]; unfold Dat.before; rw [if_pos (fetch_w t0_0).2.2]; rfl
  subst h0 h1 h2
  unfold Dat.owesAt Pipeline.owesWithin
  icases Ho with ⟨%W, %hW, HO⟩
  rw [show (dats m ρ 0 c).owed t0_0.castSucc = O₀ c from rfl]
  iapply (sound_body m ρ K c f0 g3 W fun _ => bodyPost m ρ c) $$ [Hg Hcr Hlev Hscr HO HI HX HW Hout]
  · isplitl [Hg]; · iexact Hg
    isplitl [Hcr]; · iexact Hcr
    isplitl [Hlev]; · iexact Hlev
    isplitl [Hscr]; · iexact Hscr
    isplitl [HO]; · iexact HO
    unfold stages outPts
    isplitl [HI]; · iexact HI
    isplitl [HX]; · iexact HX
    isplitl [HW]; · iexact HW
    iexact Hout
  unfold bodyPost stages outPts Dat.owesAt Pipeline.owesWithin
  rw [show (dats m ρ 0 c).owed t0_0.succ = 0 from rfl]
  iintro ⟨HΦ, ⟨%W', HO⟩, HI, HX, HW, Hout⟩
  isplitl [HΦ]; · iexact HΦ
  isplitl [HO]
  · iexists W'
    isplitr; · ipureintro; exact fun _ _ => Or.inl trivial
    iexact HO
  isplitl [HI]
  · iexists _; isplitr; · (ipureintro; rfl)
    iexact HI
  isplitl [HX]
  · iexists _; isplitr; · (ipureintro; rfl)
    iexact HX
  isplitl [HW]
  · iexists _; isplitr; · (ipureintro; rfl)
    iexact HW
  iexists _; isplitr; · (ipureintro; rfl)
  iexact Hout

/-! ## The cells and their tokens at launch -/

def osem (j : T × Bool) : SemLoc sig := csem (some j)

theorem ownSemFacts : Pipeline.OwnSemFacts cfg0.spec osem where
  isScoped := by decide +kernel
  inj := fun a b h => Option.some.inj (csem_injective h)
  disj := by decide +kernel

theorem share_eq (c : Dev nD) (w : Fin cfg0.W) : (dats m ρ 0 c).share w = fullShare := by unfold Dat.share; split <;> rfl

def ringCells : Finset (GSem nD τ sig) := Finset.univ.map ⟨kcell, kcell_injective⟩

/-- A device's tokens as minted: a `false` one for every cell, and its barrier cell's `true` one. -/
def tokOf (cj : Dev nD × Option J) : GSem nD τ sig × ℕ × Bool := match cj.2 with
  | none => (barCell cj.1, 0, true)
  | some j => (kcell (cj.1, j), 0, false)
theorem tokOf_injective : Function.Injective tokOf := by
  rintro ⟨c, _ | j⟩ ⟨c', _ | j'⟩ h
  · have h1 : barCell c = barCell c' := congrArg Prod.fst h
    rw [(Prod.mk.inj (kcell_injective h1)).1]
  · exact absurd (congrArg (fun x => x.2.2) h : true = false) (by decide)
  · exact absurd (congrArg (fun x => x.2.2) h : false = true) (by decide)
  · have h1 : kcell (c, j) = kcell (c', j') := congrArg Prod.fst h
    obtain ⟨h2, h3⟩ := Prod.mk.inj (kcell_injective h1)
    rw [h2, h3]
def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

omit [FloatOps F] in
theorem bigSep_pairs (Φ : T × Bool → sProp 𝕄) : bigSep Finset.univ Φ
    = iprop((bigSep Finset.univ fun t : T => Φ (t, false)) ∗ bigSep Finset.univ fun t : T => Φ (t, true)) := by
  rw [bigSep_univ_prod, ← bigSep_sep']
  refine bigSep_congr fun t _ => ?_
  rw [bigSep_univ_eq_bigSepL [false, true] (by decide) (by decide), bigSepL_cons_cons, bigSepL_singleton]
  rfl

/-- The duty tokens of device `c`'s own cells. -/
def toks (c : Dev nD) : sProp 𝕄 :=
  iprop(dutyTok ER (barCell c) 0 true ∗ dutyTok ER (barCell c) 0 false
    ∗ (bigSep Finset.univ fun t : T => dutyTok ER (sendCell c t) 0 false) ∗ bigSep Finset.univ fun t : T => dutyTok ER (recvCell c t) 0 false)

/-- What the launch deals device `c`. -/
def G (c : Dev nD) : sProp 𝕄 :=
  iprop((bigSep Finset.univ fun j : J => roundState ER (Rd m ρ) (kcell (c, j)) 0)
    ∗ (bigSep Finset.univ fun j : J => iprop(atPos ER (kcell (c, j)) 0 ∅ 0 ∗ reached ER (kcell (c, j)) 0)) ∗ toks c)

/-- What the global step makes of it. -/
def G' (c : Dev nD) : sProp 𝕄 := iprop(∃ K, ghost m ρ K c)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun j : J => Φ (kcell (c, j)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_opt, bigSep_opt, bigSep_pairs]; rfl
  iintro HX
  imod (Rounds.fund ER (Rd m ρ) ringCells ringToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun j : J => semVal (kcell (c, j)) 0 : sProp 𝕄) := by
  rw [unscopedSems0_eq, bigSep_opt]
  unfold Pipeline.ownSems0
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun j : J => iprop(∃ κ : ℕ, cellInv ER (Rd m ρ) κ (kcell (c, j))))
          ∗ (bigSep Finset.univ fun j : J => iprop(atPos ER (kcell (c, j)) 0 ∅ 0 ∗ reached ER (kcell (c, j)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun j : J => semVal (kcell (c, j)) 0) ∗ bigSep Finset.univ fun j : J => roundState ER (Rd m ρ) (kcell (c, j)) 0)
      ⊢ (|={Set.univ}=> bigSep Finset.univ fun j : J => iprop(∃ κ : ℕ, cellInv ER (Rd m ρ) κ (kcell (c, j))) : sProp 𝕄) from by
        rw [← bigSep_sep']
        exact (bigSep_mono fun j _ => (Rounds.body_intro ER (Rd m ρ) (kcell (c, j))).trans inv_alloc).trans (bigSep_fupd _ _)) $$ [Hv Hst] with Hinv
  · isplitl [Hv] <;> iassumption
  imodintro
  isplitl [Hinv]; · iexact Hinv
  isplitl [Hat]; · iexact Hat
  iexact Htok

/-- The tokens of the duties that device `c` pays. -/
def payToks (c : Dev nD) : sProp 𝕄 :=
  iprop(dutyTok ER (barCell (lf c)) 0 true ∗ dutyTok ER (barCell (rt c)) 0 false
    ∗ (bigSep Finset.univ fun t : T => dutyTok ER (sendCell c t) 0 false) ∗ bigSep Finset.univ fun t : T => dutyTok ER (recvCell (peer t c) t) 0 false)

/-- Every device to the one its transfer goes to. -/
def around : Dev nD × T ≃ Dev nD × T where
  toFun x := (peer x.2 x.1, x.2)
  invFun x := (origin x.2 x.1, x.2)
  left_inv x := by obtain ⟨c, t⟩ := x; exact congrArg (·, t) (origin_peer t c)
  right_inv x := by obtain ⟨c, t⟩ := x; exact congrArg (·, t) (peer_origin t c)

omit [FloatOps F] in
theorem recv_around : (bigSep Finset.univ fun c : Dev nD => bigSep Finset.univ fun t : T => (dutyTok ER (recvCell c t) 0 false : sProp 𝕄))
    = bigSep Finset.univ fun c : Dev nD => bigSep Finset.univ fun t : T => dutyTok ER (recvCell (peer t c) t) 0 false := by
  rw [← bigSep_univ_prod (fun x : Dev nD × T => (dutyTok ER (recvCell x.1 x.2) 0 false : sProp 𝕄)),
    ← bigSep_univ_prod (fun x : Dev nD × T => (dutyTok ER (recvCell (peer x.2 x.1) x.2) 0 false : sProp 𝕄)),
    bigSep_univ_equiv around (fun x : Dev nD × T => (dutyTok ER (recvCell x.1 x.2) 0 false : sProp 𝕄))]
  rfl

omit [FloatOps F] in
/-- The tokens dealt around the ring. -/
theorem toks_around : (bigSep Finset.univ fun c : Dev nD => (toks c : sProp 𝕄)) ⊢ bigSep Finset.univ fun c : Dev nD => payToks c := by
  unfold toks payToks
  simp only [bigSep_sep']
  rw [recv_around, bigSep_univ_equiv ring.symm (fun c : Dev nD => (dutyTok ER (barCell c) 0 true : sProp 𝕄)),
    bigSep_univ_equiv ring (fun c : Dev nD => (dutyTok ER (barCell c) 0 false : sProp 𝕄))]
  exact BI.Entails.refl _

/-- What stays with device `c`: its positions, and those tokens. -/
def linear (c : Dev nD) : sProp 𝕄 := iprop((bigSep Finset.univ fun j : J => atPos ER (kcell (c, j)) 0 ∅ 0) ∗ payToks c)

theorem ghost_intro (K : Dev nD × J → ℕ) (c : Dev nD) : iprop(records m ρ K ∗ linear c) ⊢ G' m ρ c := by
  unfold linear payToks G' ghost ticket
  rw [bigSep_opt, bigSep_pairs]
  simp only [bigSep_sep']
  iintro ⟨#HR, ⟨HB, HS, HV⟩, H1, H2, H3, H4⟩
  iexists K
  isplitr; · iexact HR
  isplitl [HB]; · iexact HB
  isplitl [H1]; · iexact H1
  isplitl [H2]; · iexact H2
  isplitl [HS]; · iexact HS
  isplitl [HV]; · iexact HV
  isplitl [H4] <;> iassumption

omit [FloatOps F] in
theorem bigSep_beside {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun j : J => iprop(∃ κ : ℕ, cellInv ER (Rd m ρ) κ (kcell (c, j))))
          ∗ (bigSep Finset.univ fun j : J => iprop(atPos ER (kcell (c, j)) 0 ∅ 0 ∗ reached ER (kcell (c, j)) 0)) ∗ toks c) : sProp 𝕄)
      ⊢ bigSep Finset.univ (G' m ρ) := by
  rw [bigSep_sep', bigSep_sep', ← bigSep_univ_prod (fun cj : Dev nD × J => iprop(∃ κ : ℕ, cellInv ER (Rd m ρ) κ (kcell cj))),
    bigSep_congr (s := Finset.univ) (fun (c : Dev nD) _ => bigSep_sep' Finset.univ (fun j : J => (atPos ER (kcell (c, j)) 0 ∅ 0 : sProp 𝕄)) (fun j => reached ER (kcell (c, j)) 0)),
    bigSep_sep', ← bigSep_univ_prod (fun cj : Dev nD × J => (reached ER (kcell cj) 0 : sProp 𝕄))]
  iintro ⟨HI, ⟨Hat, #HR⟩, Htok⟩
  ihave HK := (BI.bigSep_exists_pi Finset.univ (fun (cj : Dev nD × J) (κ : ℕ) => (cellInv ER (Rd m ρ) κ (kcell cj) : sProp 𝕄))) $$ HI
  icases HK with ⟨%K, #HI⟩
  ihave Htk := (toks_around (F := F)) $$ Htok
  iapply (bigSep_beside (R := records m ρ K) fun c _ => ghost_intro m ρ K c)
  isplitr
  · unfold records; isplitl; · iexact HI
    iexact HR
  · unfold linear
    rw [bigSep_sep']
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

theorem O₀_apply (d : Dev nD) (g : GSem nD τ sig) : O₀ d g () =
    Orem d 0 g () + (if g = barCell (rt d) then 1 else 0) + (if g = barCell (lf d) then 1 else 0) := by
  unfold O₀ O₁
  rw [Pi.add_apply, Finsupp.add_apply, Pi.add_apply, Finsupp.add_apply, tallyAt_apply, tallyAt_apply]
  simp only [and_true]

theorem Orem_recv (d c : Dev nD) (t : T) : Orem d 0 (recvCell c t) () = if d = origin t c then N else 0 := by
  unfold Orem
  rw [Finset.sum_apply, Finsupp.finset_sum_apply, Finset.sum_eq_single t]
  · rw [tallyAt_apply]
    by_cases h : d = origin t c
    · subst h; rw [peer_origin, if_pos ⟨rfl, rfl⟩, if_pos rfl]
    · rw [if_neg h, if_neg]
      rintro ⟨h1, -⟩
      have h2 : c = peer t d := (Prod.mk.inj (kcell_injective h1)).1
      exact h (by rw [h2, origin_peer])
  · intro t' _ ht
    rw [tallyAt_apply, if_neg]
    rintro ⟨h1, -⟩
    have h2 : (some (t, true) : J) = some (t', true) := (Prod.mk.inj (kcell_injective h1)).2
    exact ht (Prod.mk.inj (Option.some.inj h2)).1.symm
  · intro h; exact absurd (Finset.mem_filter.mpr ⟨Finset.mem_univ t, Nat.zero_le t.step⟩) h

theorem Orem_bar (d c : Dev nD) : Orem d 0 (barCell c) () = 0 := by
  by_contra h
  obtain ⟨t, -, h1⟩ := Orem_pos (Nat.pos_of_ne_zero h)
  cases (Prod.mk.inj (kcell_injective h1)).2

theorem bar_eq_iff {a b : Dev nD} : barCell a = barCell b ↔ a = b :=
  ⟨fun h => (Prod.mk.inj (kcell_injective h)).1, fun h => h ▸ rfl⟩

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  have h : ∀ d : Dev nD, O₀ d (barCell c) () = (if d = lf c then 1 else 0) + (if d = rt c then 1 else 0) := fun d => by
    rw [O₀_apply, Orem_bar, Nat.zero_add]
    have e1 : (c = rt d) = (d = lf c) := propext ⟨fun h => by rw [h, lf_rt], fun h => by rw [h, rt_lf]⟩
    have e2 : (c = lf d) = (d = rt c) := propext ⟨fun h => by rw [h, rt_lf], fun h => by rw [h, lf_rt]⟩
    simp only [bar_eq_iff, e1, e2]
  rw [Pipeline.launchCredit_owing, Finsupp.single_eq_same, Finset.sum_congr rfl fun d _ => h d, Finset.sum_add_distrib,
    Finset.sum_ite_eq' Finset.univ (lf c) fun _ => 1, Finset.sum_ite_eq' Finset.univ (rt c) fun _ => 1, if_pos (Finset.mem_univ _), if_pos (Finset.mem_univ _)]

theorem launch_recv (c : Dev nD) (t : T) :
    tallyOn (recvCell c t) (launchCredit (Pipeline.owing O₀) 0 (recvCell c t)) = (tallyAt (recvCell c t) () N : CellTallies nD τ sig Unit) := by
  unfold tallyAt; refine congrArg _ (Finsupp.ext fun u => ?_); cases u
  have h : ∀ d : Dev nD, O₀ d (recvCell c t) () = if d = origin t c then N else 0 := fun d => by
    have hn : ∀ e : Dev nD, recvCell c t ≠ barCell e := fun e h1 => by cases (Prod.mk.inj (kcell_injective h1)).2
    rw [O₀_apply, Orem_recv, if_neg (hn _), if_neg (hn _)]
    rfl
  rw [Pipeline.launchCredit_owing, Finsupp.single_eq_same, Finset.sum_congr rfl fun d _ => h d, Finset.sum_ite_eq' Finset.univ (origin t c) fun _ => N,
    if_pos (Finset.mem_univ _)]

/-- The cells credited: the barrier's, and the receive cells. -/
def credSem : Option T → SemLoc sig | none => csem none | some t => csem (some (t, true))
theorem credSem_injective : Function.Injective credSem := by
  rintro (_ | a) (_ | b) h
  · rfl
  · have h1 : (none : J) = some (b, true) := csem_injective h
    cases h1
  · have h1 : (some (a, true) : J) = none := csem_injective h
    cases h1
  · rw [(Prod.mk.inj (Option.some.inj (csem_injective h))).1]

omit [FloatOps F] in
theorem creds (c : Dev nD) : (Pipeline.launchCred O₀ c : sProp 𝕄) ⊢ credits c := by
  unfold Pipeline.launchCred credits
  have hs := bigSep_subset (M := 𝕄) (Φ := fun sm : SemLoc sig => cred (tallyOn ((c.tc : Thread nD τ), sm) (launchCredit (Pipeline.owing O₀) 0 ((c.tc : Thread nD τ), sm))))
    (Finset.subset_univ (Finset.univ.map ⟨credSem, credSem_injective⟩))
  refine hs.trans ?_
  rw [bigSep_map, bigSep_opt]
  have h1 : ((tallyAt (barCell c) () 2 : CellTallies nD τ sig Unit)) = _ := (launch_bar c).symm
  have h2 : (fun t : T => (cred (tallyAt (recvCell c t) () N) : sProp 𝕄))
      = fun t => cred (tallyOn (recvCell c t) (launchCredit (Pipeline.owing O₀) 0 (recvCell c t))) := funext fun t => by rw [launch_recv]
  rw [h1, h2]
  exact BI.Entails.refl _

/-! ## The theorem's side conditions -/

/-- The one array that is no window's. -/
def restPts (c : Dev nD) : sProp 𝕄 := ((c : Thread nD τ).loc main_arg1) ↦{fullShare} m ((c : Thread nD τ).loc main_arg1)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ restPts m c) := by
  rw [Pipeline.unscopedRestP_none, unscopedRest0_eq]
  iintro ⟨Hrest, Hlev, Hcr, -, HG⟩
  ihave Hc := (creds (F := F) c) $$ Hcr
  imodintro
  unfold start G' restPts
  isplitr [Hrest]
  · isplitl [HG]; · iexact HG
    isplitl [Hc]; · iexact Hc
    iexact Hlev
  · iexact Hrest

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m ρ c from rfl, scopedRest0_eq, unscopedSems0_eq]
  unfold Φ₁ Pipeline.ownSems0 closed
  rw [bigSep_pairs, bigSep_sep']
  iintro ⟨Hr, HzS, HzB⟩
  isplitl [HzB]; · iexact HzB
  isplitl [HzS]; · iexact HzS
  iexists (filled m ρ); iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide +kernel) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

/-- Every window's array at the contents the region leaves, and the array that is no window's as it was. -/
def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg1) = m ((c : Thread nD τ).loc main_arg1)

omit [FloatOps F] in
theorem read_rest (c : Dev nD) (s' : Phys nD τ sig (Elt F)) :
    iprop(unscopedSems0 c ∗ restPts m c ∗ SI s')
      ⊢ (|={Set.univ}=> iprop(⌜(∀ sm : SemLoc sig, sm.isScoped .tc = false → s'.mem.sem ((c.tc : Thread nD τ), sm) = 0)
          ∧ s'.mem.mem ((c : Thread nD τ).loc main_arg1) = m ((c : Thread nD τ).loc main_arg1)⌝ ∗ SI s') : sProp 𝕄) := by
  iintro ⟨Hu, Hr, HSI⟩
  ihave Hr' := (show iprop(restPts m c ∗ SI s') ⊢ (iprop(⌜∀ i ∈ (Finset.univ : Finset Unit), s'.mem.mem ((c : Thread nD τ).loc main_arg1) = m ((c : Thread nD τ).loc main_arg1)⌝ ∗ SI s') : sProp 𝕄) from by
    have h := pointsTo_read_all (Ix := Unit) (Name := ℕ) (U := UU) (Lvl := ℕ) (Finset.univ : Finset Unit) (fun _ => (c : Thread nD τ).loc main_arg1) (fun _ => m ((c : Thread nD τ).loc main_arg1)) s'
    rw [bigSep_univ_of_subsingleton ()] at h
    exact h) $$ [Hr HSI]
  · isplitl [Hr] <;> iassumption
  icases Hr' with ⟨%hr, HSI⟩
  imod (Pipeline.unscopedSems0_read (X := unscopedSems0 c) (c := c) fupd_intro s') $$ [Hu HSI] with ⟨%hu, HSI⟩
  · isplitl [Hu] <;> iassumption
  imodintro
  isplitr; · ipureintro; exact ⟨hu, hr () (Finset.mem_univ _)⟩
  iexact HSI

set_option maxRecDepth 8000 in
/-- For any float values, from any memory with zero counters, every weakly fair execution on the sixteen devices ends, with
    every device's result array at the computed contents, the other arrays unchanged and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun c => restPts m c)
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg1) = m ((c : Thread nD τ).loc main_arg1))
    (hY := fun c s' => read_rest m c s')
    (hQ := fun _ h hs => ⟨fun c => ⟨fun w => (h c).1 w, (h c).2.2.2⟩, sem_eq_zero hs fun c => (h c).2.2.1⟩)

/-- A window that is only read leaves its array as it was. -/
theorem finalA_in (c : Dev nD) (w : Fin cfg0.W) (h : (cfg0.win w).isOut = false) :
    finalA m ρ c w = (s₀ m ρ).mem ((cfg0.win w).arr.view.loc (c : Thread nD τ)) :=
  (dats (F := F) m ρ 0 c).arrAt_in w h _

end Cert.Exchange

end
-- ==== Proof.Frames.lean ====
/-
# The frames

The kernel's frame from the run of the exchange, and the reference's from its generated run. The reference has no
semaphore at all, so that its counters end at zero is a statement about no cell.
-/
module

public import proofs.«01_k».proof.Defs
public import proofs.«01_k».proof.Proof.Run
public import proofs.«01_k».proof.Proof.Gen.Kernel
public import proofs.«01_k».proof.Proof.Gen.ReferenceIdeal.Run

@[expose] public section

noncomputable section

namespace Cert.Exchange

open Idealize.ShloMosaic Idealize.SL.Sem
open Cert.KernelIdeal Cert.KernelIdeal.Gen

variable {F : FTy → Type} [FloatOps F] (m : (ℓ : Loc nD τ sig) → Buf (Elt F) ℓ) (ρ : Dev nD → PrngReg)

/-- What the exchange leaves of the arguments: everything. -/
theorem args_of_QC {r : PUnit × MemSt nD τ sig (Elt F)} (h : QC m ρ r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).1 1).trans (finalA_in m ρ c 1 rfl), (h c).2, ((h c).1 0).trans (finalA_in m ρ c 0 rfl), ((h c).1 2).trans (finalA_in m ρ c 2 rfl)⟩

theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨args_of_QC m ρ h.1, h.2⟩) (run_main m ρ)

theorem frame_kernelIdeal : Cert.quiescent_KernelIdeal := fun m ρ _ => frame_any m ρ

/-! The two printed kernels are one program. -/

theorem body_eq : Kernel.cc0__moe_body (F := Bits) = KernelIdeal.cc0__moe_body (F := Bits) := rfl
theorem defs₀_eq : Kernel.defs₀ (F := Bits) = KernelIdeal.defs₀ (F := Bits) := by
  unfold Kernel.defs₀ KernelIdeal.defs₀
  refine congrArg Defs.onTc ?_
  funext i a
  rcases i with ⟨_ | i, hi⟩
  · rcases a with ⟨t, s⟩
    simp only [body_eq]
  · exact absurd hi (by omega)
theorem defs_eq : Kernel.defs (F := Bits) = KernelIdeal.defs (F := Bits) := by
  unfold Kernel.defs KernelIdeal.defs
  exact congrArg (Pipeline.defs KernelIdeal.pcfgs) defs₀_eq

theorem frame_kernel : Cert.quiescent_Kernel := fun m ρ _ => by
  rw [defs_eq]
  exact frame_any (F := Bits) m ρ

theorem frame_reference : Cert.quiescent_ReferenceIdeal := fun m ρ _ =>
  (θ_run Cert.ReferenceIdeal.defs _ _).mono
    (fun _ h => ⟨fun c => (h c).2, by
      funext x
      rcases x with ⟨t, s | s⟩
      · exact s.elim0
      · exact s.elim0⟩)
    (Cert.ReferenceIdeal.Value.run (F := Ideal) m ρ)

end Cert.Exchange

end
-- ==== Proof.Routing.lean ====
/-
# Routing: ranks, slots, selection sums

Token `i` is routed to the expert `e i`. Its rank is the number of earlier tokens routed to the same expert; the expert
takes the tokens of rank below 25. In the exchange it sits in slot `32 * e i + rank`, a dropped token in slot 4096, which
no device holds.

A product with a matrix of zeros and ones picks an entry: in the extended reals `0 * x = 0` for every `x`, so no finiteness
is asked for.
-/
module

public import Idealize.ShloMosaic.Lib.Pointwise

@[expose] public section

noncomputable section

namespace Cert.Exchange

open Idealize.ShloMosaic

/-! ## Words -/

theorem ofNat_inj {a b : ℕ} (ha : a < 2 ^ 32) (hb : b < 2 ^ 32) : BitVec.ofNat 32 a = BitVec.ofNat 32 b ↔ a = b := by
  constructor
  · intro h
    have := congrArg BitVec.toNat h
    rwa [BitVec.toNat_ofNat, BitVec.toNat_ofNat, Nat.mod_eq_of_lt ha, Nat.mod_eq_of_lt hb] at this
  · rintro rfl; rfl

theorem toInt_ofNat_small {a : ℕ} (ha : a < 2 ^ 31) : (BitVec.ofNat 32 a).toInt = a := by
  rw [BitVec.toInt_eq_toNat_of_lt] <;> rw [BitVec.toNat_ofNat, Nat.mod_eq_of_lt (by omega)]
  omega

theorem slt_ofNat {a b : ℕ} (ha : a < 2 ^ 31) (hb : b < 2 ^ 31) : IntOp.cmpi .slt (BitVec.ofNat 32 a) (BitVec.ofNat 32 b) = BitVec.ofBool (decide (a < b)) := by
  show BitVec.ofBool ((BitVec.ofNat 32 a).slt (BitVec.ofNat 32 b)) = _
  rw [BitVec.slt_eq_decide, toInt_ofNat_small ha, toInt_ofNat_small hb]
  congr 1
  exact decide_eq_decide.2 Int.ofNat_lt

/-- A comparison's bit, widened and made a number. -/
theorem sitofp_bool (φ : FTy) (b : Bool) : (FloatOps.sitofp φ ((BitVec.ofBool b).setWidth 32) : Idealize.ShloMosaic.Ideal φ) = (if b = true then 1 else 0 : EReal) := by
  cases b
  · show (((BitVec.setWidth 32 (BitVec.ofBool false)).toInt : ℝ) : EReal) = _
    have : (BitVec.setWidth 32 (BitVec.ofBool false)).toInt = 0 := by decide
    rw [this]; simp
  · show (((BitVec.setWidth 32 (BitVec.ofBool true)).toInt : ℝ) : EReal) = _
    have : (BitVec.setWidth 32 (BitVec.ofBool true)).toInt = 1 := by decide
    rw [this]; simp

theorem sitofp_eq (φ : FTy) (x y : BitVec 32) : (FloatOps.sitofp φ ((IntOp.cmpi .eq x y).setWidth 32) : Idealize.ShloMosaic.Ideal φ) = (if x = y then 1 else 0 : EReal) := by
  show (FloatOps.sitofp φ ((BitVec.ofBool (x == y)).setWidth 32) : Idealize.ShloMosaic.Ideal φ) = _
  rw [sitofp_bool]
  simp only [beq_iff_eq]

theorem sitofp_slt (φ : FTy) {a b : ℕ} (ha : a < 2 ^ 31) (hb : b < 2 ^ 31) :
    (FloatOps.sitofp φ ((IntOp.cmpi .slt (BitVec.ofNat 32 a) (BitVec.ofNat 32 b)).setWidth 32) : Idealize.ShloMosaic.Ideal φ) = (if a < b then 1 else 0 : EReal) := by
  rw [slt_ofNat ha hb, sitofp_bool]
  simp only [decide_eq_true_eq]

theorem sitofp_slt_fin (φ : FTy) {n : ℕ} (hn : n ≤ 2 ^ 31) (a b : Fin n) :
    (FloatOps.sitofp φ ((IntOp.cmpi .slt (BitVec.ofNat 32 a.val) (BitVec.ofNat 32 b.val)).setWidth 32) : Idealize.ShloMosaic.Ideal φ) = (if a.val < b.val then 1 else 0 : EReal) :=
  sitofp_slt φ (lt_of_lt_of_le a.isLt hn) (lt_of_lt_of_le b.isLt hn)

/-- A count made a word is the count. -/
theorem fptosi_count (φ : FTy) {n : ℕ} (hn : n < 2 ^ 31) : @FloatOps.fptosi Idealize.ShloMosaic.Ideal _ φ 32 ((n : ℕ) : EReal) = BitVec.ofNat 32 n := by
  show Ideal.fptosi 32 ((n : ℕ) : EReal) = _
  have h : ((n : ℕ) : EReal) = ((n : ℝ) : EReal) := by simp
  rw [h]
  unfold Ideal.fptosi
  rw [Ideal.toIntClamped_coe, if_pos (Nat.cast_nonneg n), Int.floor_natCast]
  have e : max (-((2 ^ (32 - 1) : ℕ) : ℤ)) (min (((2 ^ (32 - 1) : ℕ) : ℤ) - 1) (n : ℤ)) = (n : ℤ) := by
    have : ((2 ^ (32 - 1) : ℕ) : ℤ) = 2147483648 := by norm_num
    rw [this]; omega
  rw [e, BitVec.ofInt_natCast]

/-! ## Selection sums -/

theorem sum_pick {n : ℕ} (P : Fin n → Prop) [DecidablePred P] (k : Fin n) (h : ∀ j, P j ↔ j = k) (f : Fin n → EReal) :
    ∑ j, (if P j then 1 else 0 : EReal) * f j = f k := by
  rw [Finset.sum_eq_single k]
  · rw [if_pos ((h k).2 rfl), one_mul]
  · intro j _ hj; rw [if_neg (fun hp => hj ((h j).1 hp)), zero_mul]
  · intro hk; exact absurd (Finset.mem_univ k) hk

theorem sum_none {n : ℕ} (P : Fin n → Prop) [DecidablePred P] (h : ∀ j, ¬ P j) (f : Fin n → EReal) :
    ∑ j, (if P j then 1 else 0 : EReal) * f j = 0 :=
  Finset.sum_eq_zero fun j _ => by rw [if_neg (h j), zero_mul]

/-! ## Ranks and slots -/

def rank (e : Fin 2048 → Fin 64) (i : Fin 2048) : ℕ := (Finset.univ.filter fun j => j < i ∧ e j = e i).card
def slot (e : Fin 2048 → Fin 64) (i : Fin 2048) : ℕ := if rank e i < 25 then 32 * (e i).val + rank e i else 4096

variable (e : Fin 2048 → Fin 64)

theorem rank_le (i : Fin 2048) : rank e i ≤ 2048 := by
  have h := Finset.card_le_univ (Finset.univ.filter fun j => j < i ∧ e j = e i)
  rwa [Fintype.card_fin] at h

theorem slot_le (i : Fin 2048) : slot e i ≤ 4096 := by
  unfold slot
  split
  · have := (e i).isLt; omega
  · exact le_rfl

theorem rank_lt {i j : Fin 2048} (h : i < j) (he : e i = e j) : rank e i < rank e j := by
  apply Finset.card_lt_card
  rw [Finset.ssubset_iff_of_subset]
  · exact ⟨i, by simp [h, he], by simp⟩
  · intro k hk
    simp only [Finset.mem_filter, Finset.mem_univ, true_and] at hk ⊢
    exact ⟨hk.1.trans h, hk.2.trans he⟩

/-- No two accepted tokens share a slot. -/
theorem slot_inj {i j : Fin 2048} (hi : rank e i < 25) : slot e j = slot e i ↔ j = i := by
  constructor
  · intro h
    unfold slot at h
    rw [if_pos hi] at h
    have h1 := (e i).isLt
    have h2 := (e j).isLt
    split at h
    · have he : e j = e i := Fin.ext (by omega)
      have hr : rank e j = rank e i := by omega
      rcases lt_trichotomy i j with hl | hl | hl
      · have := rank_lt e hl he.symm; omega
      · exact hl.symm
      · have := rank_lt e hl he; omega
    · omega
  · rintro rfl; rfl

/-- The count of the earlier tokens of the same expert, as the sum of zeros and ones the programs take. -/
theorem sum_rank (i : Fin 2048) :
    ∑ k : Fin 64, (∑ j : Fin 2048, (if j.val < i.val then 1 else 0 : EReal) * (if e j = k then 1 else 0)) * (if e i = k then 1 else 0) = ((rank e i : ℕ) : EReal) := by
  rw [Finset.sum_congr rfl (fun k _ => mul_comm _ _), sum_pick (fun k => e i = k) (e i) (fun k => eq_comm)]
  rw [rank, ← Finset.sum_boole]
  refine Finset.sum_congr rfl fun j _ => ?_
  by_cases h1 : j < i
  · by_cases h2 : e j = e i
    · rw [if_pos (Fin.lt_def.1 h1), if_pos h2, if_pos ⟨h1, h2⟩, one_mul]
    · rw [if_neg h2, if_neg (fun h : j < i ∧ e j = e i => h2 h.2), mul_zero]
  · rw [if_neg (fun h => h1 (Fin.lt_def.2 h)), if_neg (fun h : j < i ∧ e j = e i => h1 h.1), zero_mul]

end Cert.Exchange

end
-- ==== Proof.Value.lean ====
/-
# The kernel's result, index by index

The routes are words `e i < 64`, the tokens `X`, the experts `W`; device `c` holds the experts `4 c … 4 c + 3`. Every
device ends with row `i` the row `X i` times the matrix of expert `e i` where token `i` is accepted, zero elsewhere.
-/
module

public import proofs.«01_k».proof.Proof.Run
public import proofs.«01_k».proof.Proof.Routing
public import Idealize.ShloMosaic.Lib.Pointwise

@[expose] public section

noncomputable section

namespace Cert.Exchange

open Cert.KernelIdeal Cert.KernelIdeal.Gen Idealize.ShloMosaic
set_option maxRecDepth 16384

/-! ## The words of the devices -/

theorem me_eq (c : Dev nD) : me c = BitVec.ofNat 32 c.val := by revert c; decide
theorem wR_eq (c : Dev nD) (k : Fin 8) : wR c k = BitVec.ofNat 32 (sR c k).val := by revert c k; decide
theorem wL_eq (c : Dev nD) (k : Fin 9) : wL c k = BitVec.ofNat 32 (sL c k).val := by revert c k; decide

theorem target (o : Fin 16) (p : ℕ) : IntOp.addi (Scalar.muli (BitVec.ofNat 32 o.val) 128#32) (BitVec.ofNat 32 p) = BitVec.ofNat 32 (128 * o.val + p) := by
  show BitVec.ofNat 32 o.val * BitVec.ofNat 32 128 + BitVec.ofNat 32 p = _
  rw [← BitVec.ofNat_mul, ← BitVec.ofNat_add, Nat.mul_comm]

variable (e : Fin 2048 → Fin 64)

/-! ## Ranks and slots -/

section Words
variable (v : Vec Idealize.ShloMosaic.Ideal S2048x1 .i32) (hv : ∀ i : Fin 2048, v (ix2 i (0 : Fin 1)) = BitVec.ofNat 32 (e i).val)
include hv

theorem route_eq (j : Fin 2048) (k : Fin 64) : (v (ix2 j (0 : Fin 1)) = BitVec.ofNat 32 k.val) = (e j = k) := by
  rw [hv, ofNat_inj (by have := (e j).isLt; omega) (by have := k.isLt; omega), Fin.ext_iff]

theorem pay3_apply (i : Fin 2048) (z : Fin 1) : k0_pay3 v (ix2 i z) = BitVec.ofNat 32 (rank e i) := by
  pointwise [k0_pay3, k0_pay2]
  simp only [sitofp_slt_fin _ (show 2048 ≤ 2 ^ 31 by norm_num), sitofp_eq, route_eq e v hv]
  rw [sum_rank e i]
  exact fptosi_count .f32 (lt_of_le_of_lt (rank_le e i) (by norm_num))

theorem pay5_apply (i : Fin 2048) (z : Fin 1) : k0_pay5 (k0_pay2 v) (k0_pay3 v) (k0_pay4 v) 32#32 (ix2 i z) = BitVec.ofNat 32 (slot e i) := by
  pointwise [k0_pay5, k0_pay4, k0_pay2]
  obtain rfl : z = 0 := Subsingleton.elim _ _
  have hr := rank_le e i
  have h25 : IntOp.cmpi .slt (BitVec.ofNat 32 (rank e i)) 25#32 = BitVec.ofBool (decide (rank e i < 25)) := slt_ofNat (by omega) (by norm_num)
  rw [pay3_apply e v hv, hv, h25]
  unfold slot
  by_cases h : rank e i < 25
  · rw [if_pos h, decide_eq_true h]
    show BitVec.ofNat 32 (e i).val * BitVec.ofNat 32 32 + BitVec.ofNat 32 (rank e i) = _
    rw [← BitVec.ofNat_mul, ← BitVec.ofNat_add, Nat.mul_comm]
  · rw [if_neg h, decide_eq_false h]
    rfl

/-- One expert's part of a compact block at entry `p`. -/
theorem part_apply (c : Dev nD) (x : Vec Idealize.ShloMosaic.Ideal S2048x512 .f32) (w : Vec Idealize.ShloMosaic.Ideal S1x512x1024 .f32)
    (M : Fin 512 → Fin 1024 → EReal) (hw : ∀ d h, w (ix3 (0 : Fin 1) d h) = M d h) (q p : ℕ) (hp : p < 128) (hq : q = p) (h : Fin 1024) :
    (∑ d, (∑ j : Fin 2048, FloatOps.sitofp (F := Idealize.ShloMosaic.Ideal) .f32 (BitVec.setWidth 32 (IntOp.cmpi .eq
        (k0_pay5 (k0_pay2 v) (k0_pay3 v) (k0_pay4 v) 32#32 (ix2 j (0 : Fin 1))) (IntOp.addi (Scalar.muli (me c) 128#32) (BitVec.ofNat 32 q)))) * x (ix2 j d)) * w (ix3 (0 : Fin 1) d h) : EReal)
      = ∑ d, (∑ j : Fin 2048, (if slot e j = 128 * c.val + p then 1 else 0 : EReal) * x (ix2 j d)) * M d h := by
  subst hq
  have hc : c.val < 16 := c.isLt
  have hs : ∀ j : Fin 2048, (k0_pay5 (k0_pay2 v) (k0_pay3 v) (k0_pay4 v) 32#32 (ix2 j (0 : Fin 1)) = BitVec.ofNat 32 (128 * c.val + q)) = (slot e j = 128 * c.val + q) := fun j => by
    rw [pay5_apply e v hv, ofNat_inj (by have := slot_le e j; omega) (by omega)]
  have ht : IntOp.addi (Scalar.muli (me c) 128#32) (BitVec.ofNat 32 q) = BitVec.ofNat 32 (128 * c.val + q) := by rw [me_eq, target]
  simp only [ht, sitofp_eq, hs, hw]

/-- The dispatch of a compact block: its entry `p` collects the tokens whose slot it is, then meets its expert's matrix. -/
theorem pay6_apply (c : Dev nD) (x : Vec Idealize.ShloMosaic.Ideal S2048x512 .f32) (w0 w1 w2 w3 : Vec Idealize.ShloMosaic.Ideal S1x512x1024 .f32)
    (W : ℕ → Fin 512 → Fin 1024 → EReal)
    (h0 : ∀ d h, w0 (ix3 (0 : Fin 1) d h) = W (4 * c.val) d h)
    (h1 : ∀ d h, w1 (ix3 (0 : Fin 1) d h) = W (4 * c.val + 1) d h)
    (h2 : ∀ d h, w2 (ix3 (0 : Fin 1) d h) = W (4 * c.val + 2) d h)
    (h3 : ∀ d h, w3 (ix3 (0 : Fin 1) d h) = W (4 * c.val + 3) d h)
    (p : Fin 128) (h : Fin 1024) :
    k0_pay6 (me c) (k0_pay2 v) (k0_pay3 v) (k0_pay4 v) 32#32 x w0 w1 w2 w3 (ix2 p h)
      = ∑ d, (∑ j : Fin 2048, (if slot e j = 128 * c.val + p.val then 1 else 0 : EReal) * x (ix2 j d)) * W (4 * c.val + p.val / 32) d h := by
  have hp := p.isLt
  pointwise [k0_pay6]
  split
  · rw [show p.val / 32 = 0 by omega]
    exact part_apply e v hv c x w0 _ h0 _ p.val hp rfl h
  · split
    · rw [show p.val / 32 = 1 by omega]
      exact part_apply e v hv c x w1 _ h1 _ p.val hp (by omega) h
    · split
      · rw [show p.val / 32 = 2 by omega]
        exact part_apply e v hv c x w2 _ h2 _ p.val hp (by omega) h
      · rw [show p.val / 32 = 3 by omega]
        exact part_apply e v hv c x w3 _ h3 _ p.val hp (by omega) h
end Words

/-! ## The sum of the blocks -/

section Sums
variable (m : (ℓ : Loc nD τ sig) → Buf (Elt Idealize.ShloMosaic.Ideal) ℓ) (ρ : Dev nD → PrngReg)
variable (X : Fin 2048 → Fin 512 → EReal) (W : ℕ → Fin 512 → Fin 1024 → EReal)

/-- What the launch memory holds: on every device the same routes and tokens, and its own four experts. -/
structure Holds : Prop where
  route : ∀ c i, ldI m ρ c (ix2 i (0 : Fin 1)) = BitVec.ofNat 32 (e i).val
  token : ∀ c i d, ldX m ρ c (ix2 i d) = X i d
  expert0 : ∀ (c : Dev nD) d h, ldW0 m ρ c (ix3 (0 : Fin 1) d h) = W (4 * c.val) d h
  expert1 : ∀ (c : Dev nD) d h, ldW1 m ρ c (ix3 (0 : Fin 1) d h) = W (4 * c.val + 1) d h
  expert2 : ∀ (c : Dev nD) d h, ldW2 m ρ c (ix3 (0 : Fin 1) d h) = W (4 * c.val + 2) d h
  expert3 : ∀ (c : Dev nD) d h, ldW3 m ρ c (ix3 (0 : Fin 1) d h) = W (4 * c.val + 3) d h

/-- Token `i`'s row at its expert. -/
def row (i : Fin 2048) (h : Fin 1024) : EReal := ∑ d, X i d * W (e i).val d h

variable {e m ρ X W} (H : Holds e m ρ X W)
include H

theorem compact_apply (c : Dev nD) (p : Fin 128) (h : Fin 1024) : compact m ρ c (ix2 p h)
    = ∑ d, (∑ j : Fin 2048, (if slot e j = 128 * c.val + p.val then 1 else 0 : EReal) * X j d) * W (4 * c.val + p.val / 32) d h := by
  unfold compact
  rw [pay6_apply e _ (H.route c) c _ _ _ _ _ W (H.expert0 c) (H.expert1 c) (H.expert2 c) (H.expert3 c) p h]
  simp only [H.token c]

/-- The entry of an accepted token holds its row. -/
theorem compact_slot (c : Dev nD) (i : Fin 2048) (hi : rank e i < 25) (p : Fin 128) (hp : slot e i = 128 * c.val + p.val) (h : Fin 1024) :
    compact m ρ c (ix2 p h) = row e X W i h := by
  rw [compact_apply H, row]
  refine Finset.sum_congr rfl fun d _ => ?_
  have he : 4 * c.val + p.val / 32 = (e i).val := by
    have := p.isLt
    have hs := hp
    unfold slot at hs
    rw [if_pos hi] at hs
    omega
  have hd := sum_pick (fun j => slot e j = 128 * c.val + p.val) i (fun j => by rw [← hp]; exact slot_inj e hi) (fun j => X j d)
  rw [he, hd]

omit H in
theorem blk_apply (c : Dev nD) (z : Fin 1) (p : Fin 128) (h : Fin 1024) : blk m ρ c (ix3 z p h) = compact m ρ c (ix2 p h) := by
  unfold compact
  pointwise [blk, k0_pay8, k0_pay7]

theorem slots_apply (c : Dev nD) (i : Fin 2048) (z : Fin 1) : slots m ρ c (ix2 i z) = BitVec.ofNat 32 (slot e i) :=
  pay5_apply e _ (H.route c) i z

/-- What block `o` adds to token `i`'s row: the row if the block holds the token, nothing otherwise. -/
theorem gather_block (c o : Dev nD) (w : BitVec 32) (hw : w = BitVec.ofNat 32 o.val) (i : Fin 2048) (h : Fin 1024) :
    (∑ p : Fin 128, FloatOps.sitofp (F := Idealize.ShloMosaic.Ideal) .f32 (BitVec.setWidth 32 (IntOp.cmpi .eq
        (slots m ρ c (ix2 i (0 : Fin 1))) (IntOp.addi (Scalar.muli w 128#32) (BitVec.ofNat 32 p.val)))) * compact m ρ o (ix2 p h) : EReal)
      = if slot e i / 128 = o.val then row e X W i h else 0 := by
  subst hw
  have ho : o.val < 16 := o.isLt
  have hs : ∀ p : Fin 128, (BitVec.ofNat 32 (slot e i) = BitVec.ofNat 32 (128 * o.val + p.val)) = (slot e i = 128 * o.val + p.val) := fun p => by
    have := slot_le e i; have := p.isLt
    rw [ofNat_inj (by omega) (by omega)]
  simp only [slots_apply H, target, sitofp_eq, hs]
  split
  · next hq =>
    have hi : rank e i < 25 := by
      by_contra hn
      unfold slot at hq; rw [if_neg hn] at hq; omega
    have hp : slot e i = 128 * o.val + (⟨slot e i % 128, Nat.mod_lt _ (by norm_num)⟩ : Fin 128).val := by
      show slot e i = 128 * o.val + slot e i % 128
      omega
    rw [sum_pick (fun p : Fin 128 => slot e i = 128 * o.val + p.val) ⟨slot e i % 128, Nat.mod_lt _ (by norm_num)⟩
      (fun p => by rw [Fin.ext_iff]; show _ ↔ p.val = slot e i % 128; have := p.isLt; omega) (fun p => compact m ρ o (ix2 p h))]
    exact compact_slot H o i hi _ hp h
  · next hq => exact sum_none (fun p : Fin 128 => slot e i = 128 * o.val + p.val) (fun p hp => hq (by have := p.isLt; omega)) _

omit H in
theorem step_apply (s : IVec S2048x1 32) (w w' : BitVec 32) (b b' : Vec Idealize.ShloMosaic.Ideal S1x128x1024 .bf16) (a : Vec Idealize.ShloMosaic.Ideal S2048x1024 .f32) (i : Fin 2048) (h : Fin 1024) :
    k0_pay13 s lanes w w' b b' a (ix2 i h) = a (ix2 i h)
      + ((∑ p : Fin 128, FloatOps.sitofp (F := Idealize.ShloMosaic.Ideal) .f32 (BitVec.setWidth 32 (IntOp.cmpi .eq (s (ix2 i (0 : Fin 1))) (IntOp.addi (Scalar.muli w 128#32) (BitVec.ofNat 32 p.val)))) * b (ix3 (0 : Fin 1) p h) : EReal)
        + (∑ p : Fin 128, FloatOps.sitofp (F := Idealize.ShloMosaic.Ideal) .f32 (BitVec.setWidth 32 (IntOp.cmpi .eq (s (ix2 i (0 : Fin 1))) (IntOp.addi (Scalar.muli w' 128#32) (BitVec.ofNat 32 p.val)))) * b' (ix3 (0 : Fin 1) p h) : EReal)) := by
  pointwise [k0_pay13, lanes]

omit H in
theorem first_apply (s : IVec S2048x1 32) (w : BitVec 32) (b : FVec Idealize.ShloMosaic.Ideal S128x1024 .bf16) (i : Fin 2048) (h : Fin 1024) :
    k0_pay10 b (k0_pay9 w s lanes) (ix2 i h)
      = (∑ p : Fin 128, FloatOps.sitofp (F := Idealize.ShloMosaic.Ideal) .f32 (BitVec.setWidth 32 (IntOp.cmpi .eq (s (ix2 i (0 : Fin 1))) (IntOp.addi (Scalar.muli w 128#32) (BitVec.ofNat 32 p.val)))) * b (ix2 p h) : EReal) := by
  pointwise [k0_pay10, k0_pay9, lanes]

omit H in
theorem last_apply (s : IVec S2048x1 32) (w : BitVec 32) (b : Vec Idealize.ShloMosaic.Ideal S1x128x1024 .bf16) (a : Vec Idealize.ShloMosaic.Ideal S2048x1024 .f32) (i : Fin 2048) (h : Fin 1024) :
    k0_pay1 (k0_pay22 a) (k0_pay23 b) (k0_pay24 w s lanes) (ix2 i h) = a (ix2 i h)
      + (∑ p : Fin 128, FloatOps.sitofp (F := Idealize.ShloMosaic.Ideal) .f32 (BitVec.setWidth 32 (IntOp.cmpi .eq (s (ix2 i (0 : Fin 1))) (IntOp.addi (Scalar.muli (Scalar.remsi (Scalar.addi w 8#32) 16#32) 128#32) (BitVec.ofNat 32 p.val)))) * b (ix3 (0 : Fin 1) p h) : EReal) := by
  pointwise [k0_pay1, k0_pay22, k0_pay23, k0_pay24, lanes]

/-- Block `o` is at most `k` places from `c` around the ring: it has been added by step `k`. -/
abbrev Seen (c : Dev nD) (k o : ℕ) : Prop := o < 16 ∧ ((o + 16 - c.val) % 16 ≤ k ∨ (c.val + 16 - o) % 16 ≤ k)

theorem acc_apply (c : Dev nD) (i : Fin 2048) (h : Fin 1024) : ∀ k, k ≤ 7 →
    acc m ρ c k (ix2 i h) = if Seen c k (slot e i / 128) then row e X W i h else 0
  | 0, _ => by
    have hc : c.val < 16 := c.isLt
    unfold acc
    rw [first_apply, gather_block H c c _ (me_eq c)]
    refine if_congr ?_ rfl rfl
    omega
  | k + 1, hk => by
    have hc : c.val < 16 := c.isLt
    have hR := gather_block H c (sR c (k + 1)) _ (wR_eq c ⟨k + 1, by omega⟩) i h
    have hL := gather_block H c (sL c (k + 1)) _ (wL_eq c ⟨k + 1, by omega⟩) i h
    unfold acc
    rw [step_apply]
    simp only [blk_apply]
    rw [hR, hL, acc_apply c i h k (by omega)]
    generalize slot e i / 128 = q
    have eR : (sR c (k + 1)).val = (c.val + 16 - (k + 1)) % 16 := rfl
    have eL : (sL c (k + 1)).val = (c.val + (k + 1)) % 16 := rfl
    rw [eR, eL]
    by_cases h1 : q = (c.val + 16 - (k + 1)) % 16
    · have a1 : ¬ q = (c.val + (k + 1)) % 16 := by omega
      have a2 : ¬ Seen c k q := by omega
      have a3 : Seen c (k + 1) q := by omega
      rw [if_pos h1, if_neg a1, if_neg a2, if_pos a3, zero_add, add_zero]
    · by_cases h2 : q = (c.val + (k + 1)) % 16
      · have a2 : ¬ Seen c k q := by omega
        have a3 : Seen c (k + 1) q := by omega
        rw [if_neg h1, if_pos h2, if_neg a2, if_pos a3, zero_add, zero_add]
      · rw [if_neg h1, if_neg h2, add_zero, add_zero]
        refine if_congr ?_ rfl rfl
        omega

/-- Device `c`'s result: an accepted token's row, zero for a dropped one. -/
theorem outAt_apply (c : Dev nD) (i : Fin 2048) (h : Fin 1024) :
    outAt m ρ c (ix2 i h) = if rank e i < 25 then row e X W i h else 0 := by
  have hc : c.val < 16 := c.isLt
  have hL := gather_block H c (sL c 8) _ (wL_eq c ⟨8, by omega⟩) i h
  unfold outAt
  rw [last_apply]
  simp only [blk_apply]
  refine (congrArg₂ (fun a b : EReal => a + b) (acc_apply H c i h 7 le_rfl) hL).trans ?_
  have eL : (sL c 8).val = (c.val + 8) % 16 := rfl
  have hs : rank e i < 25 ↔ slot e i / 128 < 16 := by
    have := (e i).isLt
    unfold slot
    split <;> omega
  rw [eL, if_congr hs rfl rfl]
  generalize slot e i / 128 = q
  by_cases h2 : q = (c.val + 8) % 16
  · have a2 : ¬ Seen c 7 q := by omega
    have a3 : q < 16 := by omega
    rw [if_pos h2, if_neg a2, if_pos a3, zero_add]
  · rw [if_neg h2, add_zero]
    refine if_congr ?_ rfl rfl
    omega

end Sums

end Cert.Exchange

end
-- ==== Proof.Loads.lean ====
/-
# The kernel's run, in terms of its arguments

What the loads read of a launch memory in which every device holds the routes, the tokens and its own four experts, and
that the result array ends as what the body left in its staging buffer.
-/
module

public import proofs.«01_k».proof.Proof.Value

@[expose] public section

noncomputable section

namespace Cert.Exchange

open Cert.KernelIdeal Cert.KernelIdeal.Gen Idealize.ShloMosaic Idealize.ShloMosaic.TcCoe

variable {F : FTy → Type} [FloatOps F]
variable (m : (ℓ : Loc nD τ sig) → Buf (Elt F) ℓ) (ρ : Dev nD → PrngReg)

theorem istg_eq (c : Dev nD) : istg m ρ c = m ((c : Thread nD τ).loc main_arg2) :=
  Memref.read_access_unit_zero (Elt F) main_arg2 (funext fun a => by fin_cases a <;> decide) (fun a => by fin_cases a <;> decide) _
theorem xstg_eq (c : Dev nD) : xstg m ρ c = m ((c : Thread nD τ).loc main_arg0) :=
  Memref.read_access_unit_zero (Elt F) main_arg0 (funext fun a => by fin_cases a <;> decide) (fun a => by fin_cases a <;> decide) _
theorem wstg_eq (c : Dev nD) : wstg m ρ c = m ((c : Thread nD τ).loc main_arg3) :=
  Memref.read_access_unit_zero (Elt F) main_arg3 (funext fun a => by fin_cases a <;> decide) (fun a => by fin_cases a <;> decide) _

theorem ldI_eq (c : Dev nD) : ldI m ρ c = m ((c : Thread nD τ).loc main_arg2) := by
  rw [← istg_eq m ρ c]
  exact Memref.readAt_unit_zero (Elt F) cc0_stg0_0 (funext fun a => by fin_cases a <;> rfl) _ _
theorem ldX_eq (c : Dev nD) : ldX m ρ c = m ((c : Thread nD τ).loc main_arg0) := by
  rw [← xstg_eq m ρ c]
  exact Memref.readAt_unit_zero (Elt F) cc0_stg1_0 (funext fun a => by fin_cases a <;> rfl) _ _

/-- A load of one expert reads it. -/
theorem ldW_at (q : Fin 4) (inb : ∀ a, (![q.val, 0, 0] : Fin 3 → ℕ) a + S1x512x1024.size a ≤ S4x512x1024.size a) (c : Dev nD) (d : Fin 512) (h : Fin 1024) :
    wM.view.readAt (Elt F) (Rect.unit (s := S4x512x1024) ![q.val, 0, 0] S1x512x1024.size inb).toLoadRect (wstg m ρ c) (ix3 (0 : Fin 1) d h)
      = m ((c : Thread nD τ).loc main_arg3) (ix3 q d h) := by
  rw [wstg_eq]
  show m ((c : Thread nD τ).loc main_arg3) ((Rect.unit (s := S4x512x1024) ![q.val, 0, 0] S1x512x1024.size inb).emb (ix3 (0 : Fin 1) d h)) = _
  congr 1
  funext a
  match a with
  | ⟨0, _⟩ => apply Fin.ext; show q.val + 1 * 0 = q.val; omega
  | ⟨1, _⟩ => apply Fin.ext; show 0 + 1 * d.val = d.val; omega
  | ⟨2, _⟩ => apply Fin.ext; show 0 + 1 * h.val = h.val; omega

/-- The result array ends as what the body left. -/
theorem finalA_out (c : Dev nD) : finalA m ρ c (3 : Fin 4) = outAt m ρ c := by
  have h : (win0_3.blk (0 : Fin 1)).view.read (Elt F) (finalA m ρ c (3 : Fin 4)) = outAt m ρ c := by
    unfold finalA
    rw [show cfg0.N = ((0 : Fin 1) : Fin cfg0.N).val + 1 from rfl, (dats m ρ 0 c).arrAt_succ (3 : Fin 4) (0 : Fin 1)]
    rw [show (cfg0.win (3 : Fin 4)).flush (0 : Fin 1) = true from flush0_3 _, if_pos rfl]
    exact View.read_write_univ _ _
  exact (Memref.read_access_unit_zero (Elt F) main_v1 (funext fun a => by fin_cases a <;> decide) (fun a => by fin_cases a <;> decide) _).symm.trans h

end Cert.Exchange

end
-- ==== Proof.Ref.lean ====
/-
# The reference's value

The reference scans the tokens in order, keeping for each expert the number of tokens it took, and then takes one
product per token. The loop's contents after `k` trips are read off: an expert's count is the number of its tokens among
the first `k`, stopped at 25, and token `i < k` is accepted exactly if its rank is below 25.
-/
module

public import proofs.«01_k».proof.Proof.Gen.ReferenceIdeal.Run
public import proofs.«01_k».proof.Proof.Routing
public import Idealize.ShloMosaic.Lib.Pointwise
public import Idealize.ShloMosaic.Lib.Routing.OpsPair
public import Idealize.ShloMosaic.Lib.Routing.OpsOne

@[expose] public section

noncomputable section

namespace Cert.Exchange.Ref

open Cert.ReferenceIdeal Cert.ReferenceIdeal.Gen Idealize.ShloMosaic

set_option maxRecDepth 16384

/-! ## Counts -/

/-- How many of the first `k` tokens go to expert `a`. -/
def cnt (e : Fin 2048 → Fin 64) (k : ℕ) (a : Fin 64) : ℕ := (Finset.univ.filter fun j : Fin 2048 => j.val < k ∧ e j = a).card

theorem cnt_zero (e : Fin 2048 → Fin 64) (a : Fin 64) : cnt e 0 a = 0 := by
  unfold cnt
  rw [Finset.card_eq_zero, Finset.filter_eq_empty_iff]
  exact fun j _ h => absurd h.1 (Nat.not_lt_zero _)

theorem cnt_rank (e : Fin 2048 → Fin 64) (i : Fin 2048) : cnt e i.val (e i) = rank e i := rfl

theorem cnt_succ (e : Fin 2048 → Fin 64) (k : Fin 2048) (a : Fin 64) : cnt e (k.val + 1) a = cnt e k.val a + if a = e k then 1 else 0 := by
  unfold cnt
  split
  · next h =>
    subst h
    rw [← Finset.card_insert_of_notMem (a := k) (by simp)]
    refine congrArg Finset.card (Finset.ext fun j => ?_)
    simp only [Finset.mem_filter, Finset.mem_univ, true_and, Finset.mem_insert]
    constructor
    · rintro ⟨h1, h2⟩
      rcases Nat.lt_succ_iff_lt_or_eq.1 h1 with h | h
      · exact Or.inr ⟨h, h2⟩
      · exact Or.inl (Fin.ext h)
    · rintro (h | ⟨h1, h2⟩)
      · subst h; exact ⟨Nat.lt_succ_self _, rfl⟩
      · exact ⟨Nat.lt_succ_of_lt h1, h2⟩
  · next h =>
    refine (congrArg Finset.card (Finset.ext fun j => ?_)).trans (Nat.add_zero _).symm
    simp only [Finset.mem_filter, Finset.mem_univ, true_and]
    constructor
    · rintro ⟨h1, h2⟩
      rcases Nat.lt_succ_iff_lt_or_eq.1 h1 with h' | h'
      · exact ⟨h', h2⟩
      · have hj : j = k := Fin.ext h'
        subst hj; exact absurd h2.symm h
    · rintro ⟨h1, h2⟩
      exact ⟨Nat.lt_succ_of_lt h1, h2⟩

/-! ## The trip's operations at an index -/

theorem slice_tokens (x : IVec S2048 32) (c : IVec S_ 32) (k : Fin 2048) (hc : (c (Shape.Idx.first h_S_)).toInt = (k.val : Int)) (j : S_.Idx) :
    shapeCast S_ (Host.dynamicSlice S1 x (fun a => (((![c] : Fin 1 → IVec S_ 32)) a (Shape.Idx.first h_S_)).toInt) sliceFits_S2048_S1) shapeCasts_S1_S_ j = x (ix1 k) := by
  have hs : ∀ ht, Host.clampedStart S2048 S1 ht (fun _ => (c (Shape.Idx.first h_S_)).toInt) 0 = k.val := fun ht =>
    Host.clampedStart_of_le _ _ _ _ hc k.isLt
  pointwise
  simp only [hs]

theorem slice_experts (x : IVec S64 32) (c : IVec S_ 32) (k : Fin 64) (hc : (c (Shape.Idx.first h_S_)).toInt = (k.val : Int)) (j : S_.Idx) :
    shapeCast S_ (Host.dynamicSlice S1 x (fun a => (((![c] : Fin 1 → IVec S_ 32)) a (Shape.Idx.first h_S_)).toInt) sliceFits_S64_S1) shapeCasts_S1_S_ j = x (ix1 k) := by
  have hs : ∀ ht, Host.clampedStart S64 S1 ht (fun _ => (c (Shape.Idx.first h_S_)).toInt) 0 = k.val := fun ht =>
    Host.clampedStart_of_le _ _ _ _ hc k.isLt
  pointwise
  simp only [hs]

theorem update_at (x : IVec S2048 1) (b : IVec S_ 1) (c : IVec S_ 32) (k i : Fin 2048) (hc : (c (Shape.Idx.first h_S_)).toInt = (k.val : Int)) :
    Host.dynamicUpdateSlice x (broadcastInDim S1 ![] bcast_S_S1 b) (fun a => (((![c] : Fin 1 → IVec S_ 32)) a (Shape.Idx.first h_S_)).toInt) updateFits_S2048_S1 (ix1 i)
      = if i = k then b ix0 else x (ix1 i) := by
  have hs : ∀ ht, Host.clampedStart S2048 S1 ht (fun _ => (c (Shape.Idx.first h_S_)).toInt) 0 = k.val := fun ht =>
    Host.clampedStart_of_le _ _ _ _ hc k.isLt
  pointwise
  simp only [hs]
  by_cases h : i = k
  · subst h
    rw [dif_pos ⟨le_rfl, Nat.lt_succ_self _⟩, if_pos rfl]
  · rw [dif_neg (fun hh => h (Fin.ext (by omega))), if_neg h]

theorem scatter_at_one (x : IVec S64 32) (b c : IVec S_ 32) (k a : Fin 64) (hc : (c ix0).toInt = (k.val : Int)) :
    Host.scatter scatter_S64_S1_S__n_0_0_0 IntOp.addi x (broadcastInDim S1 ![] bcast_S_S1 c) b (ix1 a)
      = if a = k then x (ix1 a) + b ix0 else x (ix1 a) := by
  have hb : (broadcastInDim S1 ![] bcast_S_S1 c : IVec S1 32) (ix1 (0 : Fin 1)) = c ix0 := by pointwise
  have h := Routing.lands_one scatter_S64_S1_S__n_0_0_0 rfl rfl (broadcastInDim S1 ![] bcast_S_S1 c : IVec S1 32) k ((congrArg BitVec.toInt hb).trans hc) a
  have h0 : ∀ z : S_.Idx, z = ix0 := fun z => funext fun y => y.elim0
  rw [Routing.scatter_at, show List.finRange S_.numel = [⟨0, by decide⟩] from rfl, List.foldl_cons, List.foldl_nil, h0 (S_.rowMajor.symm _)]
  exact if_congr h rfl rfl

theorem wrap (c : IVec S_ 32) (k : Fin 64) (hc : ∀ j, c j = BitVec.ofNat 32 k.val) :
    select (cmpi .slt c (constantI S_ 32 0#32)) (addi c (constantI S_ 32 64#32)) c = c := by
  funext j
  exact Routing.wrap_of_lt _ _ (by rw [hc, BitVec.toNat_ofNat]; have := k.isLt; omega)

theorem route_at (r : IVec S2048x1 32) (i : Fin 2048) : shapeCast S2048 r shapeCasts_S2048x1_S2048 (ix1 i) = r (ix2 i (0 : Fin 1)) := by
  pointwise

/-- The gather's dimension numbers. -/
abbrev D := gather_S64x512x1024_S2048x1_S2048x512x1024_12_0_n_n_0_1_15121024

theorem gather_at (V : FVec Idealize.ShloMosaic.Ideal S64x512x1024 .f32) (idx : IVec S2048x1 32) (i : Fin 2048) (k : Fin 64) (d : Fin 512) (h : Fin 1024)
    (hk : idx (ix2 i (0 : Fin 1)) = BitVec.ofNat 32 k.val) :
    Host.gather gather_S64x512x1024_S2048x1_S2048x512x1024_12_0_n_n_0_1_15121024 V idx (ix3 i d h) = V (ix3 k d h) := by
  unfold Host.gather
  congr 1
  funext a
  refine Fin.ext ?_
  match a with
  | ⟨0, _⟩ =>
    show D.start (ix3 i d h) idx 0 + D.batchCoord (ix3 i d h) 0 + D.offCoord (ix3 i d h) 0 = k.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ D.startIndexMap from List.mem_singleton.mpr rfl)]
    have hsi : D.siIdx (ix3 i d h) ⟨D.startIndexMap.idxOf (0 : Fin 3), List.idxOf_lt_length_iff.2 (List.mem_singleton.mpr rfl)⟩ = ix2 i (0 : Fin 1) := by
      funext b
      match b with
      | ⟨0, _⟩ => rfl
      | ⟨1, _⟩ => rfl
    rw [hsi, hk, toInt_ofNat_small (by have := k.isLt; omega)]
    have := k.isLt
    show min ((k.val : Int).toNat) (64 - 1) = k.val
    rw [Int.toNat_natCast]
    omega
  | ⟨1, _⟩ =>
    show D.start (ix3 i d h) idx 1 + D.batchCoord (ix3 i d h) 1 + D.offCoord (ix3 i d h) 1 = d.val
    rw [GatherDims.batchCoord_eq_zero _ _ _ List.not_mem_nil]
    unfold GatherDims.start
    rw [dif_neg (show (1 : Fin 3) ∉ D.startIndexMap by decide +kernel), Nat.add_zero, Nat.zero_add]
    rfl
  | ⟨2, _⟩ =>
    show D.start (ix3 i d h) idx 2 + D.batchCoord (ix3 i d h) 2 + D.offCoord (ix3 i d h) 2 = h.val
    rw [GatherDims.batchCoord_eq_zero _ _ _ List.not_mem_nil]
    unfold GatherDims.start
    rw [dif_neg (show (2 : Fin 3) ∉ D.startIndexMap by decide +kernel), Nat.add_zero, Nat.zero_add]
    rfl

/-! ## The loop's contents after each trip -/

abbrev Contents := Idealize.ShloMosaic.Valuation τ sig (Elt Idealize.ShloMosaic.Ideal)

abbrev tokens (V : Contents) : IVec S2048 32 := V (Proc.devRef .tc main_v3_0)
abbrev counter (V : Contents) : IVec S_ 32 := V (Proc.devRef .tc main_v3_1)
abbrev counts (V : Contents) : IVec S64 32 := V (Proc.devRef .tc main_v3_2)
abbrev accepted (V : Contents) : IVec S2048 1 := V (Proc.devRef .tc main_v3_3)

/-- The carried buffers after `k` trips. -/
structure After (e : Fin 2048 → Fin 64) (k : ℕ) (V : Contents) : Prop where
  tok : ∀ i, tokens V (ix1 i) = BitVec.ofNat 32 (e i).val
  ctr : ∀ j, counter V j = BitVec.ofNat 32 k
  num : ∀ a, counts V (ix1 a) = BitVec.ofNat 32 (min 25 (cnt e k a))
  acc : ∀ i, accepted V (ix1 i) = BitVec.ofBool (decide (i.val < k ∧ rank e i < 25))

variable {e : Fin 2048 → Fin 64} {V : Contents}

theorem expert_of (k : Fin 2048) (H : After e k.val V) (j : S_.Idx) :
    (Value.res_main_while0b_v15 V : IVec S_ 32) j = BitVec.ofNat 32 (e k).val := by
  unfold Value.res_main_while0b_v15
  refine (slice_tokens (tokens V) (counter V) k ?_ j).trans (H.tok k)
  rw [H.ctr]
  exact toInt_ofNat_small (by have := k.isLt; omega)

theorem expert_int (k : Fin 2048) (H : After e k.val V) (j : S_.Idx) :
    ((Value.res_main_while0b_v15 V : IVec S_ 32) j).toInt = ((e k).val : Int) := by
  rw [expert_of k H]
  exact toInt_ofNat_small (by have := (e k).isLt; omega)

theorem took_of (k : Fin 2048) (H : After e k.val V) (j : S_.Idx) :
    (Value.res_main_while0b_v21 V : IVec S_ 1) j = BitVec.ofBool (decide (rank e k < 25)) := by
  unfold Value.res_main_while0b_v21
  rw [wrap _ (e k) (expert_of k H)]
  show IntOp.cmpi .slt (shapeCast S_ (Host.dynamicSlice S1 (counts V) _ _) _ j) (BitVec.ofNat 32 25) = _
  refine (congrArg (fun z => IntOp.cmpi .slt z (BitVec.ofNat 32 25)) (slice_experts (counts V) _ (e k) (expert_int k H _) j)).trans ?_
  rw [H.num, cnt_rank, slt_ofNat (by omega) (by norm_num)]
  congr 1
  exact decide_eq_decide.2 (by omega)

theorem step (k : Fin 2048) (H : After e k.val V) : After e (k.val + 1) (Value.STEP V) where
  tok i := by
    show (Value.STEP V (Proc.devRef .tc main_v3_0) : IVec S2048 32) (ix1 i) = _
    rw [Value.STEP_main_v3_0]
    exact H.tok i
  ctr j := by
    show (Value.STEP V (Proc.devRef .tc main_v3_1) : IVec S_ 32) j = _
    rw [Value.STEP_main_v3_1]
    show counter V j + BitVec.ofNat 32 1 = _
    rw [H.ctr, ← BitVec.ofNat_add]
  num a := by
    show (Value.STEP V (Proc.devRef .tc main_v3_2) : IVec S64 32) (ix1 a) = _
    rw [Value.STEP_main_v3_2]
    unfold Value.step_main_v3_2
    rw [wrap _ (e k) (expert_of k H)]
    refine (scatter_at_one (counts V) _ _ (e k) a (expert_int k H _)).trans ?_
    have hb : (extui 32 (Value.res_main_while0b_v21 V : IVec S_ 1) natLt_1_32 : IVec S_ 32) ix0 = BitVec.ofNat 32 (if rank e k < 25 then 1 else 0) := by
      show BitVec.setWidth 32 ((Value.res_main_while0b_v21 V : IVec S_ 1) ix0) = _
      rw [took_of k H]
      split
      · next h => rw [decide_eq_true h]; rfl
      · next h => rw [decide_eq_false h]; rfl
    rw [hb, H.num, cnt_succ]
    by_cases h : a = e k
    · subst h
      rw [if_pos rfl, if_pos rfl, ← BitVec.ofNat_add, cnt_rank]
      congr 1
      split <;> omega
    · rw [if_neg h, if_neg h, Nat.add_zero]
  acc i := by
    show (Value.STEP V (Proc.devRef .tc main_v3_3) : IVec S2048 1) (ix1 i) = _
    rw [Value.STEP_main_v3_3]
    unfold Value.step_main_v3_3
    refine (update_at (accepted V) _ (counter V) k i ?_).trans ?_
    · rw [H.ctr]
      exact toInt_ofNat_small (by have := k.isLt; omega)
    · rw [took_of k H, H.acc]
      by_cases h : i = k
      · subst h
        rw [if_pos rfl]
        congr 1
        exact decide_eq_decide.2 ⟨fun h => ⟨Nat.lt_succ_self _, h⟩, fun h => h.2⟩
      · rw [if_neg h]
        congr 1
        refine decide_eq_decide.2 (and_congr_left fun _ => ?_)
        have : i.val ≠ k.val := fun hh => h (Fin.ext hh)
        omega

variable (m : (ℓ : Loc nD τ sig) → Buf (Elt Idealize.ShloMosaic.Ideal) ℓ) (c : Dev nD)

theorem entry (hr : ∀ i, (m ((c.tc : Thread nD τ).loc main_arg2) : IVec S2048x1 32) (ix2 i (0 : Fin 1)) = BitVec.ofNat 32 (e i).val) :
    After e 0 (StableHlo.entryContents Value.preI m c) where
  tok i := by
    refine Eq.trans ?_ (hr i)
    show (StableHlo.entryContents Value.preI m c (Proc.devRef .tc main_v3_0) : IVec S2048 32) (ix1 i) = _
    simp only [StableHlo.entryContents, StableHlo.afterL_cons, StableHlo.afterL_nil]
    after_reads_simp
    exact route_at (m ((c.tc : Thread nD τ).loc main_arg2)) i
  ctr j := congrFun (Value.ctr_entry m c) j
  num a := by
    rw [cnt_zero]
    show (StableHlo.entryContents Value.preI m c (Proc.devRef .tc main_v3_2) : IVec S64 32) (ix1 a) = _
    simp only [StableHlo.entryContents, StableHlo.afterL_cons, StableHlo.afterL_nil]
    after_reads_simp
    rfl
  acc i := by
    rw [decide_eq_false (fun h => absurd h.1 (Nat.not_lt_zero _))]
    show (StableHlo.entryContents Value.preI m c (Proc.devRef .tc main_v3_3) : IVec S2048 1) (ix1 i) = _
    simp only [StableHlo.entryContents, StableHlo.afterL_cons, StableHlo.afterL_nil]
    after_reads_simp
    rfl

theorem after_trips (hr : ∀ i, (m ((c.tc : Thread nD τ).loc main_arg2) : IVec S2048x1 32) (ix2 i (0 : Fin 1)) = BitVec.ofNat 32 (e i).val) :
    ∀ k, k ≤ 2048 → After e k (Value.STEP^[k] (StableHlo.entryContents Value.preI m c))
  | 0, _ => entry m c hr
  | k + 1, h => by
    rw [Function.iterate_succ_apply']
    exact step ⟨k, h⟩ (after_trips hr k (Nat.le_of_succ_le h))

/-! ## The result -/

/-- Token `i`'s row times expert `a`'s matrix, at column `h`. -/
def product (x : FVec Idealize.ShloMosaic.Ideal S2048x512 .f32) (w : FVec Idealize.ShloMosaic.Ideal S64x512x1024 .f32) (i : Fin 2048) (a : Fin 64) (h : Fin 1024) : EReal :=
  ∑ d : Fin 512, x (ix2 i d) * w (ix3 a d h)

theorem rows_at (x : FVec Idealize.ShloMosaic.Ideal S2048x512 .f32) (w : FVec Idealize.ShloMosaic.Ideal S64x512x1024 .f32) (r : IVec S2048x1 32) (ok : IVec S2048 1)
    (hr : ∀ i, r (ix2 i (0 : Fin 1)) = BitVec.ofNat 32 (e i).val) (i : Fin 2048) (h : Fin 1024) :
    select (broadcastInDim S2048x1024 ![0, 1] bcast_S2048x1_S2048x1024_0_1 (broadcastInDim S2048x1 ![0] bcast_S2048_S2048x1_0 ok)) (Host.dotGeneral dot_S2048x512_S2048x512x1024_S2048x1024_1_1_n_2_0_0 none x (Host.gather gather_S64x512x1024_S2048x1_S2048x512x1024_12_0_n_n_0_1_15121024 w (broadcastInDim S2048x1 ![0] bcast_S2048_S2048x1_0 (select (cmpi .slt (shapeCast _ r shapeCasts_S2048x1_S2048) (broadcastInDim S2048 ![] bcast_S_S2048 (constantI S_ 32 0#32))) (addi (shapeCast _ r shapeCasts_S2048x1_S2048) (broadcastInDim S2048 ![] bcast_S_S2048 (constantI S_ 32 64#32))) (shapeCast _ r shapeCasts_S2048x1_S2048))))) (broadcastInDim S2048x1024 ![] bcast_S_S2048x1024 (id (constant S_ .f32 0x00000000#32))) (ix2 i h)
      = Scalar.select (ok (ix1 i)) (product x w i (e i) h) (0 : EReal) := by
  have hz : (id (constant S_ FTy.f32 0#32) ix0 : Idealize.ShloMosaic.Ideal FTy.f32) = (0 : EReal) := Ideal.ofBits_zero .f32
  pointwise
  rw [hz]
  refine congrArg (fun z => Scalar.select (ok (ix1 i)) z (0 : EReal)) (Finset.sum_congr rfl fun d _ => congrArg (fun z => x (ix2 i d) * z) ?_)
  refine gather_at w _ i (e i) d h ?_
  pointwise
  rw [hr]
  exact Routing.wrap_of_lt _ _ (by rw [BitVec.toNat_ofNat]; have := (e i).isLt; omega)

theorem out_apply (hr : ∀ i, (m ((c.tc : Thread nD τ).loc main_arg2) : IVec S2048x1 32) (ix2 i (0 : Fin 1)) = BitVec.ofNat 32 (e i).val) (i : Fin 2048) (h : Fin 1024) :
    (Value.out_main_v14 (Value.STEP^[2048] (StableHlo.entryContents Value.preI m c)) : FVec Idealize.ShloMosaic.Ideal S2048x1024 .f32) (ix2 i h)
      = if rank e i < 25 then product (m ((c.tc : Thread nD τ).loc main_arg0)) (m ((c.tc : Thread nD τ).loc main_arg3)) i (e i) h else (0 : EReal) := by
  unfold Value.out_main_v14
  rw [Value.iter_main_arg0, Value.iter_main_arg2, Value.iter_main_arg3]
  refine (rows_at _ _ _ (accepted (Value.STEP^[2048] (StableHlo.entryContents Value.preI m c))) hr i h).trans ?_
  rw [(after_trips m c hr 2048 le_rfl).acc]
  by_cases hh : rank e i < 25
  · rw [if_pos hh, decide_eq_true ⟨i.isLt, hh⟩]; rfl
  · rw [if_neg hh, decide_eq_false (fun z => hh z.2)]; rfl

end Cert.Exchange.Ref

end
-- ==== Proof.Algebraic.lean ====
/-
# The kernel computes the reference

The precondition says that every token's route names one of the 64 experts. Under it the kernel's result, on every
device, and the reference's are the same function of the arguments: token `i`'s row times the matrix of its expert if
fewer than 25 earlier tokens go there, and zero otherwise.
-/
module

public import proofs.«01_k».proof.Proof.Frames
public import proofs.«01_k».proof.Proof.Loads
public import proofs.«01_k».proof.Proof.Ref

@[expose] public section

noncomputable section

namespace Cert.Exchange

open Idealize.ShloMosaic Idealize.SL.Sem

set_option maxRecDepth 16384

theorem pre_kernel : Cert.Pre_routed_KernelIdeal.Facts := ⟨by decide⟩
theorem pre_reference : Cert.Pre_routed_ReferenceIdeal.Facts := ⟨by decide⟩

theorem word_of (x : BitVec 32) : BitVec.ofNat 32 x.toNat = x := by rw [BitVec.ofNat_toNat, BitVec.setWidth_eq]

/-- A word that passes both comparisons is below 64. -/
theorem routed_word (x : BitVec 32) (h : IntOp.andi (IntOp.cmpi .sge x 0#32) (IntOp.cmpi .slt x 64#32) = 1#1) : x.toNat < 64 := by
  have h' : BitVec.ofBool ((0#32).sle x) &&& BitVec.ofBool (x.slt 64#32) = 1#1 := h
  rw [BitVec.sle_eq_decide, BitVec.slt_eq_decide] at h'
  have h1 : (0#32 : BitVec 32).toInt ≤ x.toInt := by
    by_contra hn
    rw [decide_eq_false hn] at h'
    revert h'
    cases decide (x.toInt < (64#32 : BitVec 32).toInt) <;> decide
  have h2 : x.toInt < (64#32 : BitVec 32).toInt := by
    by_contra hn
    rw [decide_eq_false hn] at h'
    revert h'
    cases decide ((0#32 : BitVec 32).toInt ≤ x.toInt) <;> decide
  have e0 : (0#32 : BitVec 32).toInt = 0 := by decide
  have e1 : (64#32 : BitVec 32).toInt = 64 := by decide
  rw [e0] at h1
  rw [e1] at h2
  rw [BitVec.toInt_eq_toNat_cond] at h1 h2
  split at h1 <;> omega

section
open Cert.KernelIdeal Cert.KernelIdeal.Gen

theorem routed_at (m : (ℓ : Loc nD τ sig) → Buf (Elt Idealize.ShloMosaic.Ideal) ℓ)
    (h : Cert.Pre_KernelIdeal_routed_KernelIdeal (hPre_routed_KernelIdeal := pre_kernel) m) (c : Dev nD) (i : Fin 2048) :
    ((m ((c.tc : Thread nD τ).loc main_arg2) : IVec S2048x1 32) (ix2 i (0 : Fin 1))).toNat < 64 :=
  routed_word _ (congrFun (h c) (ix2 i (0 : Fin 1)))

/-- Expert `n`'s matrix of the whole array, for any number `n`. -/
def experts (w : FVec Idealize.ShloMosaic.Ideal ⟨3, ![64, 512, 1024]⟩ .f32) (n : ℕ) (d : Fin 512) (h : Fin 1024) : EReal :=
  if hn : n < 64 then w (ix3 ⟨n, hn⟩ d h) else 0

theorem product_eq (x : FVec Idealize.ShloMosaic.Ideal ⟨2, ![2048, 512]⟩ .f32) (w : FVec Idealize.ShloMosaic.Ideal ⟨3, ![64, 512, 1024]⟩ .f32) (e : Fin 2048 → Fin 64) (i : Fin 2048) (h : Fin 1024) :
    Ref.product x w i (e i) h = row e (fun i d => x (ix2 i d)) (experts w) i h := by
  unfold Ref.product row experts
  exact Finset.sum_congr rfl fun d _ => by rw [dif_pos (e i).isLt]

/-- Device `c`'s `q`-th expert is the whole array's expert `4 c + q`. -/
theorem block_at (w : FVec Idealize.ShloMosaic.Ideal ⟨3, ![64, 512, 1024]⟩ .f32) (c : Fin 16) (q : Fin 4) (d : Fin 512) (h : Fin 1024) :
    Layout.block ⟨3, ![4, 512, 1024]⟩ ⟨3, ![64, 512, 1024]⟩ 0 16 c w (by decide) (ix3 q d h) = experts w (4 * c.val + q.val) d h := by
  have hn : 4 * c.val + q.val < 64 := by have := c.isLt; have := q.isLt; omega
  unfold experts
  rw [dif_pos hn, Layout.block_apply]
  congr 1
  funext a
  match a with
  | ⟨0, _⟩ => apply Fin.ext; show c.val * 4 + q.val = 4 * c.val + q.val; omega
  | ⟨1, _⟩ => rfl
  | ⟨2, _⟩ => rfl

end

/-- The two programs' memories, as the claim relates them. -/
theorem holds_of (m : (ℓ : Loc Cert.KernelIdeal.nD Cert.KernelIdeal.τ Cert.KernelIdeal.sig) → Buf (Elt Idealize.ShloMosaic.Ideal) ℓ) (ρ : Dev Cert.KernelIdeal.nD → PrngReg)
    (x : FVec Idealize.ShloMosaic.Ideal ⟨2, ![2048, 512]⟩ .f32) (r : IVec ⟨2, ![2048, 1]⟩ 32) (w : FVec Idealize.ShloMosaic.Ideal ⟨3, ![64, 512, 1024]⟩ .f32)
    (e : Fin 2048 → Fin 64) (he : ∀ i, r (ix2 i (0 : Fin 1)) = BitVec.ofNat 32 (e i).val)
    (hx : ∀ c : Dev Cert.KernelIdeal.nD, m ((c.tc : Thread Cert.KernelIdeal.nD Cert.KernelIdeal.τ).loc Cert.KernelIdeal.main_arg0) = x)
    (hr : ∀ c : Dev Cert.KernelIdeal.nD, m ((c.tc : Thread Cert.KernelIdeal.nD Cert.KernelIdeal.τ).loc Cert.KernelIdeal.main_arg2) = r)
    (hw : ∀ c : Dev Cert.KernelIdeal.nD, m ((c.tc : Thread Cert.KernelIdeal.nD Cert.KernelIdeal.τ).loc Cert.KernelIdeal.main_arg3) = Layout.block ⟨3, ![4, 512, 1024]⟩ ⟨3, ![64, 512, 1024]⟩ 0 16 c w (by decide)) :
    Holds e m ρ (fun i d => x (ix2 i d)) (experts w) := by
  have hq : ∀ (c : Dev Cert.KernelIdeal.nD) (q : Fin 4) d h, m ((c.tc : Thread Cert.KernelIdeal.nD Cert.KernelIdeal.τ).loc Cert.KernelIdeal.main_arg3) (ix3 q d h) = experts w (4 * c.val + q.val) d h :=
    fun c q d h => (congrFun (hw c) (ix3 q d h)).trans (block_at w c q d h)
  exact {
    route := fun c i => (congrFun ((ldI_eq m ρ c).trans (hr c)) _).trans (he i)
    token := fun c i d => congrFun ((ldX_eq m ρ c).trans (hx c)) _
    expert0 := fun c d h => (ldW_at m ρ 0 _ c d h).trans (hq c 0 d h)
    expert1 := fun c d h => (ldW_at m ρ 1 _ c d h).trans (hq c 1 d h)
    expert2 := fun c d h => (ldW_at m ρ 2 _ c d h).trans (hq c 2 d h)
    expert3 := fun c d h => (ldW_at m ρ 3 _ c d h).trans (hq c 3 d h) }

theorem algebraic : Cert.algebraic_KernelIdeal_ReferenceIdeal_pre_routed_KernelIdeal (hPre_routed_KernelIdeal := pre_kernel) := by
  intro m ρ m' ρ' hpre hargs
  have hlt := routed_at m hpre 0
  let e : Fin 2048 → Fin 64 := fun i => ⟨_, hlt i⟩
  have he : ∀ i, (m' (((0 : Dev Cert.ReferenceIdeal.nD).tc : Thread Cert.ReferenceIdeal.nD Cert.ReferenceIdeal.τ).loc Cert.ReferenceIdeal.main_arg2) : IVec ⟨2, ![2048, 1]⟩ 32) (ix2 i (0 : Fin 1)) = BitVec.ofNat 32 (e i).val := fun i =>
    (congrFun (hargs 0).2.2.1 (ix2 i (0 : Fin 1))).symm.trans (word_of _).symm
  have H := holds_of m ρ _ _ _ e he (fun c => (hargs c).1) (fun c => (hargs c).2.2.1) (fun c => (hargs c).2.2.2)
  refine ⟨Cert.ReferenceIdeal.Value.out_main_v14 (Cert.ReferenceIdeal.Value.STEP^[2048] (StableHlo.entryContents Cert.ReferenceIdeal.Value.preI m' (0 : Dev Cert.ReferenceIdeal.nD))), ?_, ?_⟩
  · refine (θ_run Cert.KernelIdeal.defs _ _).mono (fun r h c => ⟨?_, args_of_QC m ρ h.1 c⟩) (run_main m ρ)
    refine ((h.1 c).1 (3 : Fin 4)).trans ((finalA_out m ρ c).trans ?_)
    funext z
    obtain ⟨i, h, rfl⟩ : ∃ (i : Fin 2048) (h : Fin 1024), z = ix2 i h := ⟨z 0, z 1, funext fun a => match a with | ⟨0, _⟩ => rfl | ⟨1, _⟩ => rfl⟩
    refine (outAt_apply H c i h).trans ((Ref.out_apply m' 0 he i h).trans ?_).symm
    refine if_congr Iff.rfl ?_ rfl
    exact product_eq _ _ e i h
  · exact (θ_run Cert.ReferenceIdeal.defs _ _).mono (fun r h => h 0) (Cert.ReferenceIdeal.Value.run m' ρ')

end Cert.Exchange

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Exchange.pre_kernel, Cert.Exchange.pre_reference,
  Cert.Exchange.frame_kernel,
  Cert.Exchange.frame_kernelIdeal, fun m g _ => Cert.Exchange.frame_kernelIdeal m g .intro,
  Cert.Exchange.frame_reference, fun m g _ => Cert.Exchange.frame_reference m g .intro,
  trivial, Cert.Exchange.algebraic⟩

end Cert.Proof

end
